-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.Statement Cert.KernelIdeal.S17x2x128 Cert.KernelIdeal.S17x1x128
  ∧ IdealRules.bf16_pair.Statement Cert.KernelIdeal.S34x128 Cert.KernelIdeal.S17x128
  ∧ IdealRules.bf16_pack.Statement Cert.KernelIdeal.S256x128
  ∧ IdealRules.bf16_pack.Statement Cert.KernelIdeal.S512x128
  ∧ IdealRules.named_const.Statement Cert.KernelIdeal.κ "scaled_offset" .f32 0xC1D2B77C#32 (((-38) * (Real.log 2) : ℝ) : EReal)
  ∧ IdealRules.named_const.Statement Cert.KernelIdeal.κ "usage_offset" .f32 0x40DDCE9E#32 ((10 * (Real.log 2) : ℝ) : EReal)
  ∧ IdealRules.named_const.Statement Cert.KernelIdeal.κ "log_codes" .f32 0x413C8939#32 ((17 * (Real.log 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x17 : Shape := ⟨3, ![2, 128, 17]⟩
abbrev S17x2x128 : Shape := ⟨3, ![17, 2, 128]⟩
abbrev S2x128 : Shape := ⟨2, ![2, 128]⟩
abbrev S2048x128 : Shape := ⟨2, ![2048, 128]⟩
abbrev S2 : Shape := ⟨1, ![2]⟩
abbrev S128x512 : Shape := ⟨2, ![128, 512]⟩
abbrev S256x128 : Shape := ⟨2, ![256, 128]⟩
abbrev S17x1x128 : Shape := ⟨3, ![17, 1, 128]⟩
abbrev S17x128 : Shape := ⟨2, ![17, 128]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S16x128 : Shape := ⟨2, ![16, 128]⟩
abbrev S32x128 : Shape := ⟨2, ![32, 128]⟩
abbrev S64x128 : Shape := ⟨2, ![64, 128]⟩
abbrev S128x128 : Shape := ⟨2, ![128, 128]⟩
abbrev S512x128 : Shape := ⟨2, ![512, 128]⟩
abbrev S256x768 : Shape := ⟨2, ![256, 768]⟩
abbrev S512x768 : Shape := ⟨2, ![512, 768]⟩
abbrev S256x512 : Shape := ⟨2, ![256, 512]⟩
abbrev S1x256x512 : Shape := ⟨3, ![1, 256, 512]⟩
abbrev S1024x2x128 : Shape := ⟨3, ![1024, 2, 128]⟩
abbrev S2x1024x128 : Shape := ⟨3, ![2, 1024, 128]⟩
abbrev S2x131072 : Shape := ⟨2, ![2, 131072]⟩

abbrev nBuf : Space → Nat
  | .hbm => 10
  | .vmem => 7
  | .smem => 1
  | _ => 0

abbrev bufTy : (tb : Table) → Fin (tcTables nBuf tb) → BufTy
  | .hbm, ⟨0, _⟩ => ⟨S2x128x17, .bf16⟩
  | .hbm, ⟨1, _⟩ => ⟨S17x2x128, .bf16⟩
  | .hbm, ⟨2, _⟩ => ⟨S2x128, .i32⟩
  | .hbm, ⟨3, _⟩ => ⟨S2x128, .f32⟩
  | .hbm, ⟨4, _⟩ => ⟨S2x128, .f32⟩
  | .hbm, ⟨5, _⟩ => ⟨S2048x128, .f32⟩
  | .hbm, ⟨6, _⟩ => ⟨S2, .f32⟩
  | .hbm, ⟨7, _⟩ => ⟨S1024x2x128, .f32⟩
  | .hbm, ⟨8, _⟩ => ⟨S2x1024x128, .f32⟩
  | .hbm, ⟨9, _⟩ => ⟨S2x131072, .f32⟩
  | .local _ .vmem, ⟨0, _⟩ => ⟨S17x2x128, .bf16⟩
  | .local _ .vmem, ⟨1, _⟩ => ⟨S2x128, .i32⟩
  | .local _ .vmem, ⟨2, _⟩ => ⟨S2x128, .f32⟩
  | .local _ .vmem, ⟨3, _⟩ => ⟨S2x128, .f32⟩
  | .local _ .vmem, ⟨4, _⟩ => ⟨S2048x128, .f32⟩
  | .local _ .vmem, ⟨5, _⟩ => ⟨S128x512, .f32⟩
  | .local _ .vmem, ⟨6, _⟩ => ⟨S256x128, .f32⟩
  | .local _ .smem, ⟨0, _⟩ => ⟨S2, .f32⟩
  | _, _ => ⟨S2x128x17, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

@[reducible] def k0_t1_loop : Scf.Loop 32 :=
  let c0_i32_141 : BitVec 32 := 0#32
  let c256_i32 : BitVec 32 := 256#32
  let v725 : BitVec 32 := Scalar.addi c0_i32_141 c256_i32
  let c1_i32_142 : BitVec 32 := 1#32
  ⟨c0_i32_141, v725, c1_i32_142⟩
def k0_off1 (k0_t1 : Fin k0_t1_loop.trips) : Fin 2 → Nat :=
  let c0_i32_141 : BitVec 32 := 0#32
  let c1_i32_142 : BitVec 32 := 1#32
  let arg8 : BitVec 32 := Scf.iv c0_i32_141 c1_i32_142 k0_t1
  let v908 : Index := Scalar.indexCast arg8
  let c0_175 : Index := 0#32
  ![v908.toNat, 0]
def k0_off2 (k0_t1 : Fin k0_t1_loop.trips) (c0_i32_182 : BitVec 32) : Fin 2 → Nat :=
  let c2_i32_181 : BitVec 32 := 2#32
  let c0_i32_141 : BitVec 32 := 0#32
  let c1_i32_142 : BitVec 32 := 1#32
  let arg8 : BitVec 32 := Scf.iv c0_i32_141 c1_i32_142 k0_t1
  let v926 : BitVec 32 := Scalar.muli c2_i32_181 arg8
  let v927 : BitVec 32 := Scalar.addi c0_i32_182 v926
  let v928 : Index := Scalar.indexCast v927
  let c0_183 : Index := 0#32
  ![v928.toNat, 0]
@[reducible] def k0_t2_loop : Scf.Loop 32 :=
  let c0_i32_169 : BitVec 32 := 0#32
  let c256_i32_170 : BitVec 32 := 256#32
  let v901 : BitVec 32 := Scalar.addi c0_i32_169 c256_i32_170
  let c1_i32_171 : BitVec 32 := 1#32
  ⟨c0_i32_169, v901, c1_i32_171⟩
def k0_off3 (k0_t2 : Fin k0_t2_loop.trips) : Fin 2 → Nat :=
  let c0_i32_169 : BitVec 32 := 0#32
  let c1_i32_171 : BitVec 32 := 1#32
  let arg8 : BitVec 32 := Scf.iv c0_i32_169 c1_i32_171 k0_t2
  let v908 : Index := Scalar.indexCast arg8
  let c0_175 : Index := 0#32
  ![v908.toNat, 0]
def k0_off4 (k0_t2 : Fin k0_t2_loop.trips) (c1_i32_182 : BitVec 32) : Fin 2 → Nat :=
  let c2_i32_181 : BitVec 32 := 2#32
  let c0_i32_169 : BitVec 32 := 0#32
  let c1_i32_171 : BitVec 32 := 1#32
  let arg8 : BitVec 32 := Scf.iv c0_i32_169 c1_i32_171 k0_t2
  let v926 : BitVec 32 := Scalar.muli c2_i32_181 arg8
  let v927 : BitVec 32 := Scalar.addi c1_i32_182 v926
  let v928 : Index := Scalar.indexCast v927
  let c0_183 : Index := 0#32
  ![v928.toNat, 0]
abbrev stage0_0 : Fin 1 → Memref sig .tc .vmem S17x2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
abbrev S34x128 : Shape := ⟨2, ![34, 128]⟩
variable {F : FTy → Type} [FloatOps F] [Named F]
def κ : String → Option EReal := fun
  | "log_codes" => some ((17 * (Real.log 2) : ℝ) : EReal)
  | "scaled_offset" => some (((-38) * (Real.log 2) : ℝ) : EReal)
  | "usage_offset" => some ((10 * (Real.log 2) : ℝ) : EReal)
  | _ => none
-- ==== ReferenceIdeal.lean ====
abbrev S2x128x17 : Shape := ⟨3, ![2, 128, 17]⟩
abbrev S_ : Shape := ⟨0, ![]⟩
abbrev S17 : Shape := ⟨1, ![17]⟩
abbrev S1x1x17 : Shape := ⟨3, ![1, 1, 17]⟩
abbrev S2x128 : Shape := ⟨2, ![2, 128]⟩
abbrev S2x128x34 : Shape := ⟨3, ![2, 128, 34]⟩
abbrev S131072 : Shape := ⟨1, ![131072]⟩
abbrev S1x131072 : Shape := ⟨2, ![1, 131072]⟩
abbrev S17x1 : Shape := ⟨2, ![17, 1]⟩
abbrev S17x131072 : Shape := ⟨2, ![17, 131072]⟩
abbrev S34x131072 : Shape := ⟨2, ![34, 131072]⟩
abbrev S2x128x131072 : Shape := ⟨3, ![2, 128, 131072]⟩
abbrev S2x131072 : Shape := ⟨2, ![2, 131072]⟩
abbrev S2x1x131072 : Shape := ⟨3, ![2, 1, 131072]⟩
abbrev S2 : Shape := ⟨1, ![2]⟩

abbrev nBuf : Space → Nat
  | .hbm => 124
  | .vmem => 0
  | .smem => 0
  | _ => 0

abbrev bufTy : (tb : Table) → Fin (tcTables nBuf tb) → BufTy
  | .hbm, ⟨0, _⟩ => ⟨S2x128x17, .bf16⟩
  | .hbm, ⟨1, _⟩ => ⟨S2x128x17, .f32⟩
  | .hbm, ⟨2, _⟩ => ⟨S_, .f32⟩
  | .hbm, ⟨3, _⟩ => ⟨S2x128x17, .f32⟩
  | .hbm, ⟨4, _⟩ => ⟨S2x128x17, .i1⟩
  | .hbm, ⟨5, _⟩ => ⟨S17, .i32⟩
  | .hbm, ⟨6, _⟩ => ⟨S_, .i32⟩
  | .hbm, ⟨7, _⟩ => ⟨S17, .i32⟩
  | .hbm, ⟨8, _⟩ => ⟨S17, .i32⟩
  | .hbm, ⟨9, _⟩ => ⟨S_, .i32⟩
  | .hbm, ⟨10, _⟩ => ⟨S17, .i32⟩
  | .hbm, ⟨11, _⟩ => ⟨S17, .i32⟩
  | .hbm, ⟨12, _⟩ => ⟨S2x128x17, .i32⟩
  | .hbm, ⟨13, _⟩ => ⟨S1x1x17, .i32⟩
  | .hbm, ⟨14, _⟩ => ⟨S2x128x17, .i32⟩
  | .hbm, ⟨15, _⟩ => ⟨S2x128x17, .i32⟩
  | .hbm, ⟨16, _⟩ => ⟨S_, .i32⟩
  | .hbm, ⟨17, _⟩ => ⟨S2x128, .i32⟩
  | .hbm, ⟨18, _⟩ => ⟨S_, .f32⟩
  | .hbm, ⟨19, _⟩ => ⟨S_, .f32⟩
  | .hbm, ⟨20, _⟩ => ⟨S2x128x17, .f32⟩
  | .hbm, ⟨21, _⟩ => ⟨S2x128x17, .f32⟩
  | .hbm, ⟨22, _⟩ => ⟨S2x128x17, .f32⟩
  | .hbm, ⟨23, _⟩ => ⟨S2x128x17, .f32⟩
  | .hbm, ⟨24, _⟩ => ⟨S2x128x17, .f32⟩
  | .hbm, ⟨25, _⟩ => ⟨S_, .f32⟩
  | .hbm, ⟨26, _⟩ => ⟨S2x128, .f32⟩
  | .hbm, ⟨27, _⟩ => ⟨S_, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128x17, .f32⟩
  | .hbm, ⟨32, _⟩ => ⟨S2x128x17, .f32⟩
  | .hbm, ⟨33, _⟩ => ⟨S2x128x17, .f32⟩
  | .hbm, ⟨34, _⟩ => ⟨S_, .f32⟩
  | .hbm, ⟨35, _⟩ => ⟨S2x128x17, .f32⟩
  | .hbm, ⟨36, _⟩ => ⟨S2x128x17, .f32⟩
  | .hbm, ⟨37, _⟩ => ⟨S2x128x17, .f32⟩
  | .hbm, ⟨38, _⟩ => ⟨S2x128x17, .f32⟩
  | .hbm, ⟨39, _⟩ => ⟨S2x128x17, .i1⟩
  | .hbm, ⟨40, _⟩ => ⟨S2x128x17, .f32⟩
  | .hbm, ⟨41, _⟩ => ⟨S2x128x17, .f32⟩
  | .hbm, ⟨42, _⟩ => ⟨S2x128x17, .f32⟩
  | .hbm, ⟨43, _⟩ => ⟨S2x128x17, .f32⟩
  | .hbm, ⟨44, _⟩ => ⟨S2x128x17, .f32⟩
  | .hbm, ⟨45, _⟩ => ⟨S2x128x17, .f32⟩
  | .hbm, ⟨46, _⟩ => ⟨S2x128x17, .f32⟩
  | .hbm, ⟨47, _⟩ => ⟨S2x128x17, .f32⟩
  | .hbm, ⟨48, _⟩ => ⟨S2x128x17, .f32⟩
  | .hbm, ⟨49, _⟩ => ⟨S2x128x17, .f32⟩
  | .hbm, ⟨50, _⟩ => ⟨S2x128x17, .f32⟩
  | .hbm, ⟨51, _⟩ => ⟨S_, .f32⟩
  | .hbm, ⟨52, _⟩ => ⟨S2x128x17, .f32⟩
  | .hbm, ⟨53, _⟩ => ⟨S2x128x17, .f32⟩
  | .hbm, ⟨54, _⟩ => ⟨S2x128x17, .f32⟩
  | .hbm, ⟨55, _⟩ => ⟨S2x128x17, .f32⟩
  | .hbm, ⟨56, _⟩ => ⟨S2x128x17, .i1⟩
  | .hbm, ⟨57, _⟩ => ⟨S2x128x17, .f32⟩
  | .hbm, ⟨58, _⟩ => ⟨S2x128x17, .f32⟩
  | .hbm, ⟨59, _⟩ => ⟨S2x128x17, .f32⟩
  | .hbm, ⟨60, _⟩ => ⟨S2x128x17, .f32⟩
  | .hbm, ⟨61, _⟩ => ⟨S2x128x17, .f32⟩
  | .hbm, ⟨62, _⟩ => ⟨S2x128x17, .f32⟩
  | .hbm, ⟨63, _⟩ => ⟨S2x128x17, .f32⟩
  | .hbm, ⟨64, _⟩ => ⟨S2x128x17, .f32⟩
  | .hbm, ⟨65, _⟩ => ⟨S2x128x17, .f32⟩
  | .hbm, ⟨66, _⟩ => ⟨S2x128x17, .f32⟩
  | .hbm, ⟨67, _⟩ => ⟨S2x128x17, .f32⟩
  | .hbm, ⟨68, _⟩ => ⟨S2x128x17, .f32⟩
  | .hbm, ⟨69, _⟩ => ⟨S2x128x17, .f32⟩
  | .hbm, ⟨70, _⟩ => ⟨S2x128x17, .f32⟩
  | .hbm, ⟨71, _⟩ => ⟨S_, .f32⟩
  | .hbm, ⟨72, _⟩ => ⟨S2x128, .f32⟩
  | .hbm, ⟨73, _⟩ => ⟨S2x128, .f32⟩
  | .hbm, ⟨74, _⟩ => ⟨S2x128x34, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S131072, .i32⟩
  | .hbm, ⟨83, _⟩ => ⟨S1x131072, .i32⟩
  | .hbm, ⟨84, _⟩ => ⟨S17x1, .i32⟩
  | .hbm, ⟨85, _⟩ => ⟨S17x131072, .i32⟩
  | .hbm, ⟨86, _⟩ => ⟨S17x131072, .i32⟩
  | .hbm, ⟨87, _⟩ => ⟨S17x131072, .i32⟩
  | .hbm, ⟨88, _⟩ => ⟨S_, .i32⟩
  | .hbm, ⟨89, _⟩ => ⟨S17x131072, .i32⟩
  | .hbm, ⟨90, _⟩ => ⟨S17x131072, .i32⟩
  | .hbm, ⟨91, _⟩ => ⟨S17x131072, .f32⟩
  | .hbm, ⟨92, _⟩ => ⟨S_, .f32⟩
  | .hbm, ⟨93, _⟩ => ⟨S17x131072, .f32⟩
  | .hbm, ⟨94, _⟩ => ⟨S17x131072, .f32⟩
  | .hbm, ⟨95, _⟩ => ⟨S34x131072, .f32⟩
  | .hbm, ⟨96, _⟩ => ⟨S2x128x131072, .f32⟩
  | .hbm, ⟨97, _⟩ => ⟨S_, .f32⟩
  | .hbm, ⟨98, _⟩ => ⟨S2x131072, .f32⟩
  | .hbm, ⟨99, _⟩ => ⟨S2x131072, .f32⟩
  | .hbm, ⟨100, _⟩ => ⟨S_, .f32⟩
  | .hbm, ⟨101, _⟩ => ⟨S2x131072, .f32⟩
  | .hbm, ⟨102, _⟩ => ⟨S2x131072, .i1⟩
  | .hbm, ⟨103, _⟩ => ⟨S_, .f32⟩
  | .hbm, ⟨104, _⟩ => ⟨S2x131072, .f32⟩
  | .hbm, ⟨105, _⟩ => ⟨S2x131072, .f32⟩
  | .hbm, ⟨106, _⟩ => ⟨S2x1x131072, .f32⟩
  | .hbm, ⟨107, _⟩ => ⟨S2x128x131072, .f32⟩
  | .hbm, ⟨108, _⟩ => ⟨S2x128x131072, .f32⟩
  | .hbm, ⟨109, _⟩ => ⟨S2x128x131072, .f32⟩
  | .hbm, ⟨110, _⟩ => ⟨S_, .f32⟩
  | .hbm, ⟨111, _⟩ => ⟨S2x131072, .f32⟩
  | .hbm, ⟨112, _⟩ => ⟨S2x131072, .f32⟩
  | .hbm, ⟨113, _⟩ => ⟨S2x131072, .f32⟩
  | .hbm, ⟨114, _⟩ => ⟨S2x131072, .f32⟩
  | .hbm, ⟨115, _⟩ => ⟨S2x131072, .f32⟩
  | .hbm, ⟨116, _⟩ => ⟨S_, .f32⟩
  | .hbm, ⟨117, _⟩ => ⟨S_, .f32⟩
  | .hbm, ⟨118, _⟩ => ⟨S2x131072, .f32⟩
  | .hbm, ⟨119, _⟩ => ⟨S2x131072, .f32⟩
  | .hbm, ⟨120, _⟩ => ⟨S2x131072, .f32⟩
  | .hbm, ⟨121, _⟩ => ⟨S2x131072, .f32⟩
  | .hbm, ⟨122, _⟩ => ⟨S_, .f32⟩
  | .hbm, ⟨123, _⟩ => ⟨S2, .f32⟩
  | _, _ => ⟨S2x128x17, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v21 : Ref sig .tc := ⟨.hbm, 48, rfl⟩
abbrev main_v22 : Ref sig .tc := ⟨.hbm, 49, rfl⟩
abbrev main_call2_v0 : Ref sig .tc := ⟨.hbm, 50, rfl⟩
abbrev main_call2_call0_cst : Ref sig .tc := ⟨.hbm, 51, rfl⟩
abbrev main_call2_call0_v0 : Ref sig .tc := ⟨.hbm, 52, rfl⟩
abbrev main_call2_call0_v1 : Ref sig .tc := ⟨.hbm, 53, rfl⟩
abbrev main_call2_call0_v2 : Ref sig .tc := ⟨.hbm, 54, rfl⟩
abbrev main_call2_call0_v3 : Ref sig .tc := ⟨.hbm, 55, rfl⟩
abbrev main_call2_call0_v4 : Ref sig .tc := ⟨.hbm, 56, rfl⟩
abbrev main_call2_call0_v5 : Ref sig .tc := ⟨.hbm, 57, rfl⟩
abbrev main_call2_call0_v6 : Ref sig .tc := ⟨.hbm, 58, rfl⟩
abbrev main_call2_call0_v7 : Ref sig .tc := ⟨.hbm, 59, rfl⟩
abbrev main_call2_call0_v8 : Ref sig .tc := ⟨.hbm, 60, rfl⟩
abbrev main_call2_call0_v9 : Ref sig .tc := ⟨.hbm, 61, rfl⟩
abbrev main_call2_call0_v10 : Ref sig .tc := ⟨.hbm, 62, rfl⟩
abbrev main_call2_call0_v11 : Ref sig .tc := ⟨.hbm, 63, rfl⟩
abbrev main_call2_v1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_cst_7 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_8 : Ref sig .tc := ⟨.hbm, 75, rfl⟩
abbrev main_v32 : Ref sig .tc := ⟨.hbm, 76, rfl⟩
abbrev main_cst_9 : Ref sig .tc := ⟨.hbm, 77, rfl⟩
abbrev main_v33 : Ref sig .tc := ⟨.hbm, 78, rfl⟩
abbrev main_cst_10 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_11 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_12 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_13 : Ref sig .tc := ⟨.hbm, 97, rfl⟩
abbrev main_v49 : Ref sig .tc := ⟨.hbm, 98, rfl⟩
abbrev main_v50 : Ref sig .tc := ⟨.hbm, 99, rfl⟩
abbrev main_cst_14 : Ref sig .tc := ⟨.hbm, 100, rfl⟩
abbrev main_v51 : Ref sig .tc := ⟨.hbm, 101, rfl⟩
abbrev main_v52 : Ref sig .tc := ⟨.hbm, 102, rfl⟩
abbrev main_cst_15 : Ref sig .tc := ⟨.hbm, 103, rfl⟩
abbrev main_call3_v0 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_16 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_17 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_18 : Ref sig .tc := ⟨.hbm, 122, rfl⟩
abbrev main_v68 : Ref sig .tc := ⟨.hbm, 123, rfl⟩

abbrev nD : Nat := 1
abbrev τ : Topo := Topo.v7x

variable {F : FTy → Type} [FloatOps F]
-- ==== Proof.KernelKit.lean ====
module

public import proofs.«01_k».proof.Proof.Gen.Kernel.Loops
public import proofs.«01_k».proof.Proof.Gen.Kernel.Frame
public import Idealize.ShloMosaic.Lib.WholeRead

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ
/-! ## The kernel body on any staging memrefs: a subtype the run finds -/

/-- One staging buffer of output window 1, through which its contents are stated (`View.read_writes_of_cover`: the
    choice does not matter). -/
abbrev VO0_1 : View sig .tc .vmem S2x128 .i32 := (Memref.whole cc0_stg1_0 : Memref sig .tc .vmem S2x128 .i32).view
/-- One staging buffer of output window 2, through which its contents are stated (`View.read_writes_of_cover`: the
    choice does not matter). -/
abbrev VO0_2 : View sig .tc .vmem S2x128 .f32 := (Memref.whole cc0_stg2_0 : Memref sig .tc .vmem S2x128 .f32).view
/-- One staging buffer of output window 3, through which its contents are stated (`View.read_writes_of_cover`: the
    choice does not matter). -/
abbrev VO0_3 : View sig .tc .vmem S2x128 .f32 := (Memref.whole cc0_stg3_0 : Memref sig .tc .vmem S2x128 .f32).view
/-- One staging buffer of output window 4, through which its contents are stated (`View.read_writes_of_cover`: the
    choice does not matter). -/
abbrev VO0_4 : View sig .tc .vmem S2048x128 .f32 := (Memref.whole cc0_stg4_0 : Memref sig .tc .vmem S2048x128 .f32).view
/-- One staging buffer of output window 5, through which its contents are stated (`View.read_writes_of_cover`: the
    choice does not matter). -/
abbrev VO0_5 : View sig .tc .smem S2 .f32 := (Memref.whole cc0_stg5_0 : Memref sig .tc .smem S2 .f32).view
/-- Each window's current staging memref at point `t`, spelled as the pipeline passes it (`bodyAt0`), and its wholeness. -/
abbrev ms0_0 (t : Fin cfg0.N) : Memref sig .tc .vmem S17x2x128 .bf16 := win0_0.stage (cfg0.slots t 0)
/-- Window 0's staging memref is a whole buffer. -/
abbrev hs0_0 (t : Fin cfg0.N) : (ms0_0 t).IsWhole := hstage0_0 0
/-- Window 1's staging memref at point `t`. -/
abbrev ms0_1 (t : Fin cfg0.N) : Memref sig .tc .vmem S2x128 .i32 := win0_1.stage (cfg0.slots t 1)
/-- Window 1's staging memref is a whole buffer. -/
abbrev hs0_1 (t : Fin cfg0.N) : (ms0_1 t).IsWhole := hstage0_1 0
/-- Window 2's staging memref at point `t`. -/
abbrev ms0_2 (t : Fin cfg0.N) : Memref sig .tc .vmem S2x128 .f32 := win0_2.stage (cfg0.slots t 2)
/-- Window 2's staging memref is a whole buffer. -/
abbrev hs0_2 (t : Fin cfg0.N) : (ms0_2 t).IsWhole := hstage0_2 0
/-- Window 3's staging memref at point `t`. -/
abbrev ms0_3 (t : Fin cfg0.N) : Memref sig .tc .vmem S2x128 .f32 := win0_3.stage (cfg0.slots t 3)
/-- Window 3's staging memref is a whole buffer. -/
abbrev hs0_3 (t : Fin cfg0.N) : (ms0_3 t).IsWhole := hstage0_3 0
/-- Window 4's staging memref at point `t`. -/
abbrev ms0_4 (t : Fin cfg0.N) : Memref sig .tc .vmem S2048x128 .f32 := win0_4.stage (cfg0.slots t 4)
/-- Window 4's staging memref is a whole buffer. -/
abbrev hs0_4 (t : Fin cfg0.N) : (ms0_4 t).IsWhole := hstage0_4 0
/-- Window 5's staging memref at point `t`. -/
abbrev ms0_5 (t : Fin cfg0.N) : Memref sig .tc .smem S2 .f32 := win0_5.stage (cfg0.slots t 5)
/-- Window 5's staging memref is a whole buffer. -/
abbrev hs0_5 (t : Fin cfg0.N) : (ms0_5 t).IsWhole := hstage0_5 0
/-- The scratch operands: whole scoped buffers of the kernel's own, passed beside the windows. -/
abbrev scM0_0 : Memref sig .tc .vmem S128x512 .f32 := Memref.whole cc0_scratch0
/-- The second scratch array. -/
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The bit the kernel branches on: both batch rows have every code's log probability high enough for the product of tables. -/
def fastOk (x0 : Vec F S17x2x128 .bf16) : BitVec 1 :=
  Scalar.andi (Scalar.cmpf .oge (k0_pay66 (k0_pay56 x0) (k0_pay57 x0)) (Scalar.ofBits .f32 0xC2BF4F02#32))
    (Scalar.cmpf .oge (k0_pay107 (k0_pay102 (k0_pay52 x0)) (k0_pay103 (k0_pay52 x0)) (k0_pay104 (k0_pay52 x0)) (Scalar.ofBits .f32 0x00000000#32)) (Scalar.ofBits .f32 0xC2BF4F02#32))

/-- The kernel takes its second, log-domain path. -/
abbrev slow (x0 : Vec F S17x2x128 .bf16) : Prop :=
  Scalar.cmpi .ne (Scalar.extui (Scalar.xori (fastOk x0) 1#1)) 0#32 = 1#1

/-- What the kernel reads of its input: the whole staging buffer. -/
abbrev xin (arg0 : Memref sig .tc .vmem S17x2x128 .bf16) (harg0 : arg0.IsWhole) (x0 : Vec F S17x2x128 .bf16) : Vec F S17x2x128 .bf16 :=
  View.readAt (Elt F) arg0.view (Rect.unit (s := S17x2x128) ![0, 0, 0] S17x2x128.size inb_S17x2x128_S17x2x128_0_0_0).toLoadRect (harg0.unread x0)

/-- Reading the whole buffer gives its contents. -/
theorem xin_eq (arg0 : Memref sig .tc .vmem S17x2x128 .bf16) (harg0 : arg0.IsWhole) (x0 : Vec F S17x2x128 .bf16) : xin arg0 harg0 x0 = x0 := by
  funext i
  refine (Memref.IsWhole.readAt_unread harg0 x0 (Rect.unit (s := S17x2x128) ![0, 0, 0] S17x2x128.size inb_S17x2x128_S17x2x128_0_0_0).toLoadRect i).trans (congrArg x0 ?_)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

end Cert.Kernel.Body

end
-- ==== Proof.KernelFast.lean ====
module

public import proofs.«01_k».proof.Proof.KernelKit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 2000000 in
/-- What the body's stores leave in each output's staging buffer, as pieces (last first), when the kernel does not take its log-domain path,
    with the proof that the body, on whole staging buffers holding `x0` and anything else, runs to the continuation that holds them. -/
noncomputable def runFast (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) :
    Σ' (L1 : List (View.Piece (Elt F) S2x128 .i32)), Σ' (L2 : List (View.Piece (Elt F) S2x128 .f32)), Σ' (L3 : List (View.Piece (Elt F) S2x128 .f32)), Σ' (L4 : List (View.Piece (Elt F) S2048x128 .f32)), { L5 : List (View.Piece (Elt F) S2 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d)) -∗ K ⟨⟩))
          ⊢ wp frame (wpE (defs₀ (F := F)) Variants.none c none) E (cc0_lfq_usage arg0 harg0 arg1 harg1 arg2 harg2 arg3 harg3 arg4 harg4 arg5 harg5 arg6 harg6 arg7 harg7) K } := by
  refine ⟨?_, ?_, ?_, ?_, ?_, fun E K => ?run⟩
  case run =>
    simp only [cc0_lfq_usage_eq_skeleton]; unfold cc0_lfq_usage_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg0.eq_unread hf0
    sl_exec (disch := exact hc)
    sl_step
    iapply Hk
    isplitl [H0]
    · iexists _; isplitr; · ipureintro; exact harg0.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.Kernel.Body

end
-- ==== Proof.KernelSlow.lean ====
module

public import proofs.«01_k».proof.Proof.KernelKit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 2000000 in
/-- What the body's stores leave in each output's staging buffer, as pieces (last first), when the kernel takes its log-domain path,
    with the proof that the body, on whole staging buffers holding `x0` and anything else, runs to the continuation that holds them. -/
noncomputable def runSlow (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) :
    Σ' (L1 : List (View.Piece (Elt F) S2x128 .i32)), Σ' (L2 : List (View.Piece (Elt F) S2x128 .f32)), Σ' (L3 : List (View.Piece (Elt F) S2x128 .f32)), Σ' (L4 : List (View.Piece (Elt F) S2048x128 .f32)), { L5 : List (View.Piece (Elt F) S2 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d)) -∗ K ⟨⟩))
          ⊢ wp frame (wpE (defs₀ (F := F)) Variants.none c none) E (cc0_lfq_usage arg0 harg0 arg1 harg1 arg2 harg2 arg3 harg3 arg4 harg4 arg5 harg5 arg6 harg6 arg7 harg7) K } := by
  refine ⟨?_, ?_, ?_, ?_, ?_, fun E K => ?run⟩
  case run =>
    simp only [cc0_lfq_usage_eq_skeleton]; unfold cc0_lfq_usage_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg0.eq_unread hf0
    sl_exec (disch := exact hc)
    sl_step
    iapply Hk
    isplitl [H0]
    · iexists _; isplitr; · ipureintro; exact harg0.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.Kernel.Body

end
-- ==== Proof.KernelBody.lean ====
module

public import proofs.«01_k».proof.Proof.KernelFast
public import proofs.«01_k».proof.Proof.KernelSlow
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A row and a lane of the block of rows with one parity that starts at row `o` of the usage output. -/
theorem mem_rows {o : Nat} {inb sp} (y : S2048x128.Idx) (h1 : o ≤ (y 0).val) (h2 : (y 0).val < o + 512) (h3 : (y 0).val % 2 = o % 2) :
    y ∈ (⟨(⟨![o, 0], S256x128.size, ![2, 1], inb⟩ : LoadRect S2048x128), sp⟩ : Rect S2048x128).set := by
  refine (LoadRect.mem_set _).mpr ?_
  intro a
  match a with
  | ⟨0, _⟩ =>
    refine ⟨((y 0).val - o) / 2, ?_, ?_⟩
    · show ((y 0).val - o) / 2 < 256; omega
    · show (y 0).val = o + 2 * (((y 0).val - o) / 2); omega
  | ⟨1, _⟩ =>
    refine ⟨(y 1).val, (y 1).isLt, ?_⟩
    show (y 1).val = 0 + 1 * (y 1).val; omega

/-- What one of the later pieces covers, the whole list of pieces covers. -/
theorem mem_app {S : Shape} {e : EltTy} (A L : List (View.Piece (Elt F) S e)) (y : S.Idx) (h : ∃ pc ∈ L, y ∈ pc.1.set) :
    ∃ pc ∈ A ++ L, y ∈ pc.1.set := by
  obtain ⟨p, hp, hy⟩ := h
  exact ⟨p, List.mem_append_right _ hp, hy⟩

/-- The eight blocks of rows are the whole usage output. -/
theorem mem_eight (w0 w1 w2 w3 w4 w5 w6 w7 : Vec F S256x128 .f32) (y : S2048x128.Idx) :
    ∃ pc ∈ ([⟨(⟨(⟨![1537, 0], S256x128.size, ![2, 1], inb_S2048x128_S256x128_1537_0_s_2_1⟩ : LoadRect S2048x128), spos_2_1⟩ : Rect S2048x128), w0⟩,
      ⟨(⟨(⟨![1025, 0], S256x128.size, ![2, 1], inb_S2048x128_S256x128_1025_0_s_2_1⟩ : LoadRect S2048x128), spos_2_1⟩ : Rect S2048x128), w1⟩,
      ⟨(⟨(⟨![513, 0], S256x128.size, ![2, 1], inb_S2048x128_S256x128_513_0_s_2_1⟩ : LoadRect S2048x128), spos_2_1⟩ : Rect S2048x128), w2⟩,
      ⟨(⟨(⟨![1, 0], S256x128.size, ![2, 1], inb_S2048x128_S256x128_1_0_s_2_1⟩ : LoadRect S2048x128), spos_2_1⟩ : Rect S2048x128), w3⟩,
      ⟨(⟨(⟨![1536, 0], S256x128.size, ![2, 1], inb_S2048x128_S256x128_1536_0_s_2_1⟩ : LoadRect S2048x128), spos_2_1⟩ : Rect S2048x128), w4⟩,
      ⟨(⟨(⟨![1024, 0], S256x128.size, ![2, 1], inb_S2048x128_S256x128_1024_0_s_2_1⟩ : LoadRect S2048x128), spos_2_1⟩ : Rect S2048x128), w5⟩,
      ⟨(⟨(⟨![512, 0], S256x128.size, ![2, 1], inb_S2048x128_S256x128_512_0_s_2_1⟩ : LoadRect S2048x128), spos_2_1⟩ : Rect S2048x128), w6⟩,
      ⟨(⟨(⟨![0, 0], S256x128.size, ![2, 1], inb_S2048x128_S256x128_0_0_s_2_1⟩ : LoadRect S2048x128), spos_2_1⟩ : Rect S2048x128), w7⟩] : List (View.Piece (Elt F) S2048x128 .f32)), y ∈ pc.1.set := by
  have hy : (y 0).val < 2048 := (y 0).isLt
  simp only [List.exists_mem_cons_iff]
  rcases Nat.mod_two_eq_zero_or_one (y 0).val with hp | hp
  · by_cases h0 : (y 0).val < 512
    · exact Or.inr (Or.inr (Or.inr (Or.inr (Or.inr (Or.inr (Or.inr (Or.inl (mem_rows (o := 0) (sp := spos_2_1) y (by omega) (by omega) (by omega)))))))))
    by_cases h1 : (y 0).val < 1024
    · exact Or.inr (Or.inr (Or.inr (Or.inr (Or.inr (Or.inr (Or.inl (mem_rows (o := 512) (sp := spos_2_1) y (by omega) (by omega) (by omega))))))))
    by_cases h2 : (y 0).val < 1536
    · exact Or.inr (Or.inr (Or.inr (Or.inr (Or.inr (Or.inl (mem_rows (o := 1024) (sp := spos_2_1) y (by omega) (by omega) (by omega)))))))
    exact Or.inr (Or.inr (Or.inr (Or.inr (Or.inl (mem_rows (o := 1536) (sp := spos_2_1) y (by omega) (by omega) (by omega))))))
  · by_cases h0 : (y 0).val < 512
    · exact Or.inr (Or.inr (Or.inr (Or.inl (mem_rows (o := 1) (sp := spos_2_1) y (by omega) (by omega) (by omega)))))
    by_cases h1 : (y 0).val < 1024
    · exact Or.inr (Or.inr (Or.inl (mem_rows (o := 513) (sp := spos_2_1) y (by omega) (by omega) (by omega))))
    by_cases h2 : (y 0).val < 1536
    · exact Or.inr (Or.inl (mem_rows (o := 1025) (sp := spos_2_1) y (by omega) (by omega) (by omega)))
    exact Or.inl (mem_rows (o := 1537) (sp := spos_2_1) y (by omega) (by omega) (by omega))

/-- The stores the run found for output 1 reach every element. -/
theorem coverFast1 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2x128.Idx) :
    ∃ pc ∈ (runFast c arg0 harg0 arg1 harg1 arg2 harg2 arg3 harg3 arg4 harg4 arg5 harg5 arg6 harg6 arg7 harg7 x0 hc).1, y ∈ pc.1.set :=
  View.cover_of_tiledL (runFast c arg0 harg0 arg1 harg1 arg2 harg2 arg3 harg3 arg4 harg4 arg5 harg5 arg6 harg6 arg7 harg7 x0 hc).1 S1x128.size (by sl_kernel_rfl) y

/-- The stores the run found for output 2 reach every element. -/
theorem coverFast2 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2x128.Idx) :
    ∃ pc ∈ (runFast c arg0 harg0 arg1 harg1 arg2 harg2 arg3 harg3 arg4 harg4 arg5 harg5 arg6 harg6 arg7 harg7 x0 hc).2.1, y ∈ pc.1.set :=
  View.cover_of_tiledL (runFast c arg0 harg0 arg1 harg1 arg2 harg2 arg3 harg3 arg4 harg4 arg5 harg5 arg6 harg6 arg7 harg7 x0 hc).2.1 S1x128.size (by sl_kernel_rfl) y

/-- The stores the run found for output 3 reach every element. -/
theorem coverFast3 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2x128.Idx) :
    ∃ pc ∈ (runFast c arg0 harg0 arg1 harg1 arg2 harg2 arg3 harg3 arg4 harg4 arg5 harg5 arg6 harg6 arg7 harg7 x0 hc).2.2.1, y ∈ pc.1.set :=
  View.cover_of_tiledL (runFast c arg0 harg0 arg1 harg1 arg2 harg2 arg3 harg3 arg4 harg4 arg5 harg5 arg6 harg6 arg7 harg7 x0 hc).2.2.1 S1x128.size (by sl_kernel_rfl) y

/-- The stores the run found for output 5 reach every element. -/
theorem coverFast5 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2.Idx) :
    ∃ pc ∈ (runFast c arg0 harg0 arg1 harg1 arg2 harg2 arg3 harg3 arg4 harg4 arg5 harg5 arg6 harg6 arg7 harg7 x0 hc).2.2.2.2.1, y ∈ pc.1.set :=
  View.cover_of_tiledL (runFast c arg0 harg0 arg1 harg1 arg2 harg2 arg3 harg3 arg4 harg4 arg5 harg5 arg6 harg6 arg7 harg7 x0 hc).2.2.2.2.1 S1.size (by sl_kernel_rfl) y

/-- The eight strided stores of the first path reach every element of the usage output. -/
theorem coverFast4 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2048x128.Idx) :
    ∃ pc ∈ (runFast c arg0 harg0 arg1 harg1 arg2 harg2 arg3 harg3 arg4 harg4 arg5 harg5 arg6 harg6 arg7 harg7 x0 hc).2.2.2.1, y ∈ pc.1.set := by
  unfold runFast; dsimp only
  exact mem_eight _ _ _ _ _ _ _ _ y

/-- The stores the run found for output 1 reach every element. -/
theorem coverSlow1 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2x128.Idx) :
    ∃ pc ∈ (runSlow c arg0 harg0 arg1 harg1 arg2 harg2 arg3 harg3 arg4 harg4 arg5 harg5 arg6 harg6 arg7 harg7 x0 hc).1, y ∈ pc.1.set :=
  View.cover_of_tiledL (runSlow c arg0 harg0 arg1 harg1 arg2 harg2 arg3 harg3 arg4 harg4 arg5 harg5 arg6 harg6 arg7 harg7 x0 hc).1 S1x128.size (by sl_kernel_rfl) y

/-- The stores the run found for output 2 reach every element. -/
theorem coverSlow2 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2x128.Idx) :
    ∃ pc ∈ (runSlow c arg0 harg0 arg1 harg1 arg2 harg2 arg3 harg3 arg4 harg4 arg5 harg5 arg6 harg6 arg7 harg7 x0 hc).2.1, y ∈ pc.1.set :=
  View.cover_of_tiledL (runSlow c arg0 harg0 arg1 harg1 arg2 harg2 arg3 harg3 arg4 harg4 arg5 harg5 arg6 harg6 arg7 harg7 x0 hc).2.1 S1x128.size (by sl_kernel_rfl) y

/-- The stores the run found for output 3 reach every element. -/
theorem coverSlow3 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2x128.Idx) :
    ∃ pc ∈ (runSlow c arg0 harg0 arg1 harg1 arg2 harg2 arg3 harg3 arg4 harg4 arg5 harg5 arg6 harg6 arg7 harg7 x0 hc).2.2.1, y ∈ pc.1.set :=
  View.cover_of_tiledL (runSlow c arg0 harg0 arg1 harg1 arg2 harg2 arg3 harg3 arg4 harg4 arg5 harg5 arg6 harg6 arg7 harg7 x0 hc).2.2.1 S1x128.size (by sl_kernel_rfl) y

/-- The stores the run found for output 5 reach every element. -/
theorem coverSlow5 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2.Idx) :
    ∃ pc ∈ (runSlow c arg0 harg0 arg1 harg1 arg2 harg2 arg3 harg3 arg4 harg4 arg5 harg5 arg6 harg6 arg7 harg7 x0 hc).2.2.2.2.1, y ∈ pc.1.set :=
  View.cover_of_tiledL (runSlow c arg0 harg0 arg1 harg1 arg2 harg2 arg3 harg3 arg4 harg4 arg5 harg5 arg6 harg6 arg7 harg7 x0 hc).2.2.2.2.1 S1.size (by sl_kernel_rfl) y

/-- The eight strided stores of the first path reach every element of the usage output. -/
theorem coverSlow4 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2048x128.Idx) :
    ∃ pc ∈ (runSlow c arg0 harg0 arg1 harg1 arg2 harg2 arg3 harg3 arg4 harg4 arg5 harg5 arg6 harg6 arg7 harg7 x0 hc).2.2.2.1, y ∈ pc.1.set := by
  unfold runSlow; dsimp only
  refine mem_app _ _ _ ?_
  refine mem_app _ _ _ ?_
  exact mem_eight _ _ _ _ _ _ _ _ y

open Classical in
/-- What the body leaves in output 1's staging buffer: the stores of the path it takes, read back. -/
def out1 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2x128 .i32 :=
  if hc : slow (xin arg0 harg0 x0) then VO0_1.read (Elt F) (VO0_1.writes (Elt F) VO0_1.junk (runSlow c arg0 harg0 arg1 harg1 arg2 harg2 arg3 harg3 arg4 harg4 arg5 harg5 arg6 harg6 arg7 harg7 x0 hc).1)
  else VO0_1.read (Elt F) (VO0_1.writes (Elt F) VO0_1.junk (runFast c arg0 harg0 arg1 harg1 arg2 harg2 arg3 harg3 arg4 harg4 arg5 harg5 arg6 harg6 arg7 harg7 x0 hc).1)

open Classical in
/-- What the body leaves in output 2's staging buffer: the stores of the path it takes, read back. -/
def out2 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2x128 .f32 :=
  if hc : slow (xin arg0 harg0 x0) then VO0_2.read (Elt F) (VO0_2.writes (Elt F) VO0_2.junk (runSlow c arg0 harg0 arg1 harg1 arg2 harg2 arg3 harg3 arg4 harg4 arg5 harg5 arg6 harg6 arg7 harg7 x0 hc).2.1)
  else VO0_2.read (Elt F) (VO0_2.writes (Elt F) VO0_2.junk (runFast c arg0 harg0 arg1 harg1 arg2 harg2 arg3 harg3 arg4 harg4 arg5 harg5 arg6 harg6 arg7 harg7 x0 hc).2.1)

open Classical in
/-- What the body leaves in output 3's staging buffer: the stores of the path it takes, read back. -/
def out3 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2x128 .f32 :=
  if hc : slow (xin arg0 harg0 x0) then VO0_3.read (Elt F) (VO0_3.writes (Elt F) VO0_3.junk (runSlow c arg0 harg0 arg1 harg1 arg2 harg2 arg3 harg3 arg4 harg4 arg5 harg5 arg6 harg6 arg7 harg7 x0 hc).2.2.1)
  else VO0_3.read (Elt F) (VO0_3.writes (Elt F) VO0_3.junk (runFast c arg0 harg0 arg1 harg1 arg2 harg2 arg3 harg3 arg4 harg4 arg5 harg5 arg6 harg6 arg7 harg7 x0 hc).2.2.1)

open Classical in
/-- What the body leaves in output 4's staging buffer: the stores of the path it takes, read back. -/
def out4 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2048x128 .f32 :=
  if hc : slow (xin arg0 harg0 x0) then VO0_4.read (Elt F) (VO0_4.writes (Elt F) VO0_4.junk (runSlow c arg0 harg0 arg1 harg1 arg2 harg2 arg3 harg3 arg4 harg4 arg5 harg5 arg6 harg6 arg7 harg7 x0 hc).2.2.2.1)
  else VO0_4.read (Elt F) (VO0_4.writes (Elt F) VO0_4.junk (runFast c arg0 harg0 arg1 harg1 arg2 harg2 arg3 harg3 arg4 harg4 arg5 harg5 arg6 harg6 arg7 harg7 x0 hc).2.2.2.1)

open Classical in
/-- What the body leaves in output 5's staging buffer: the stores of the path it takes, read back. -/
def out5 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2 .f32 :=
  if hc : slow (xin arg0 harg0 x0) then VO0_5.read (Elt F) (VO0_5.writes (Elt F) VO0_5.junk (runSlow c arg0 harg0 arg1 harg1 arg2 harg2 arg3 harg3 arg4 harg4 arg5 harg5 arg6 harg6 arg7 harg7 x0 hc).2.2.2.2.1)
  else VO0_5.read (Elt F) (VO0_5.writes (Elt F) VO0_5.junk (runFast c arg0 harg0 arg1 harg1 arg2 harg2 arg3 harg3 arg4 harg4 arg5 harg5 arg6 harg6 arg7 harg7 x0 hc).2.2.2.2.1)

/-- The stores' contents do not depend on what the buffers held: the two paths' triple with the contents `outK`. -/
theorem run (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (E : Set ℕ) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare (out1 c arg0 harg0 arg1 harg1 arg2 harg2 arg3 harg3 arg4 harg4 arg5 harg5 arg6 harg6 arg7 harg7 x0) ∗ owns (c : Thread nD τ) arg2 fullShare (out2 c arg0 harg0 arg1 harg1 arg2 harg2 arg3 harg3 arg4 harg4 arg5 harg5 arg6 harg6 arg7 harg7 x0) ∗ owns (c : Thread nD τ) arg3 fullShare (out3 c arg0 harg0 arg1 harg1 arg2 harg2 arg3 harg3 arg4 harg4 arg5 harg5 arg6 harg6 arg7 harg7 x0) ∗ owns (c : Thread nD τ) arg4 fullShare (out4 c arg0 harg0 arg1 harg1 arg2 harg2 arg3 harg3 arg4 harg4 arg5 harg5 arg6 harg6 arg7 harg7 x0) ∗ owns (c : Thread nD τ) arg5 fullShare (out5 c arg0 harg0 arg1 harg1 arg2 harg2 arg3 harg3 arg4 harg4 arg5 harg5 arg6 harg6 arg7 harg7 x0) ∗ (∃ d, owns (c : Thread nD τ) arg6 fullShare d) ∗ (∃ d, owns (c : Thread nD τ) arg7 fullShare d)) -∗ K ⟨⟩))
      ⊢ wp frame (wpE (defs₀ (F := F)) Variants.none c none) E (cc0_lfq_usage arg0 harg0 arg1 harg1 arg2 harg2 arg3 harg3 arg4 harg4 arg5 harg5 arg6 harg6 arg7 harg7) K := by
  by_cases hc : slow (xin arg0 harg0 x0)
  · unfold out1 out2 out3 out4 out5
    simp only [dif_pos hc]
    iintro ⟨H0, H1, H2, H3, H4, H5, HS0, HS1, Hk⟩
    iapply ((runSlow c arg0 harg0 arg1 harg1 arg2 harg2 arg3 harg3 arg4 harg4 arg5 harg5 arg6 harg6 arg7 harg7 x0 hc).2.2.2.2.2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, ⟨%e1, H1⟩, ⟨%e2, H2⟩, ⟨%e3, H3⟩, ⟨%e4, H4⟩, ⟨%e5, H5⟩, HS0, HS1⟩
    iapply Hk
    isplitl [H0]; · iexact H0
    isplitl [H1]
    · unfold owns; iexists _; isplitr
      swap; · iexact H1
      ipureintro; exact View.read_writes_of_cover _ _ _ _ _ (coverSlow1 c _ _ _ _ _ _ _ _ _ _ _ _ _ _ _ _ _ hc)
    isplitl [H2]
    · unfold owns; iexists _; isplitr
      swap; · iexact H2
      ipureintro; exact View.read_writes_of_cover _ _ _ _ _ (coverSlow2 c _ _ _ _ _ _ _ _ _ _ _ _ _ _ _ _ _ hc)
    isplitl [H3]
    · unfold owns; iexists _; isplitr
      swap; · iexact H3
      ipureintro; exact View.read_writes_of_cover _ _ _ _ _ (coverSlow3 c _ _ _ _ _ _ _ _ _ _ _ _ _ _ _ _ _ hc)
    isplitl [H4]
    · unfold owns; iexists _; isplitr
      swap; · iexact H4
      ipureintro; exact View.read_writes_of_cover _ _ _ _ _ (coverSlow4 c _ _ _ _ _ _ _ _ _ _ _ _ _ _ _ _ _ hc)
    isplitl [H5]
    · unfold owns; iexists _; isplitr
      swap; · iexact H5
      ipureintro; exact View.read_writes_of_cover _ _ _ _ _ (coverSlow5 c _ _ _ _ _ _ _ _ _ _ _ _ _ _ _ _ _ hc)
    isplitl [HS0]; · iexact HS0
    iexact HS1
  · unfold out1 out2 out3 out4 out5
    simp only [dif_neg hc]
    iintro ⟨H0, H1, H2, H3, H4, H5, HS0, HS1, Hk⟩
    iapply ((runFast c arg0 harg0 arg1 harg1 arg2 harg2 arg3 harg3 arg4 harg4 arg5 harg5 arg6 harg6 arg7 harg7 x0 hc).2.2.2.2.2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, ⟨%e1, H1⟩, ⟨%e2, H2⟩, ⟨%e3, H3⟩, ⟨%e4, H4⟩, ⟨%e5, H5⟩, HS0, HS1⟩
    iapply Hk
    isplitl [H0]; · iexact H0
    isplitl [H1]
    · unfold owns; iexists _; isplitr
      swap; · iexact H1
      ipureintro; exact View.read_writes_of_cover _ _ _ _ _ (coverFast1 c _ _ _ _ _ _ _ _ _ _ _ _ _ _ _ _ _ hc)
    isplitl [H2]
    · unfold owns; iexists _; isplitr
      swap; · iexact H2
      ipureintro; exact View.read_writes_of_cover _ _ _ _ _ (coverFast2 c _ _ _ _ _ _ _ _ _ _ _ _ _ _ _ _ _ hc)
    isplitl [H3]
    · unfold owns; iexists _; isplitr
      swap; · iexact H3
      ipureintro; exact View.read_writes_of_cover _ _ _ _ _ (coverFast3 c _ _ _ _ _ _ _ _ _ _ _ _ _ _ _ _ _ hc)
    isplitl [H4]
    · unfold owns; iexists _; isplitr
      swap; · iexact H4
      ipureintro; exact View.read_writes_of_cover _ _ _ _ _ (coverFast4 c _ _ _ _ _ _ _ _ _ _ _ _ _ _ _ _ _ hc)
    isplitl [H5]
    · unfold owns; iexists _; isplitr
      swap; · iexact H5
      ipureintro; exact View.read_writes_of_cover _ _ _ _ _ (coverFast5 c _ _ _ _ _ _ _ _ _ _ _ _ _ _ _ _ _ hc)
    isplitl [HS0]; · iexact HS0
    iexact HS1
/-! ## What the outputs hold after each point -/

/-- What the outputs' staging buffers hold after the body at point `t` (as a tuple, in window order): the run's contents at
    the point's memrefs and input blocks. -/
def outsAt0 (c : Dev nD) (t : Fin cfg0.N) : Vec F S2x128 .i32 × Vec F S2x128 .f32 × Vec F S2x128 .f32 × Vec F S2048x128 .f32 × Vec F S2 .f32 :=
  (out1 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out2 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out3 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out4 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t).1
    | ⟨2, _⟩ => (outsAt0 m c t).2.1
    | ⟨3, _⟩ => (outsAt0 m c t).2.2.1
    | ⟨4, _⟩ => (outsAt0 m c t).2.2.2.1
    | ⟨5, _⟩ => (outsAt0 m c t).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in output window 1: the run's contents. -/
theorem after0_1 (c : Dev nD) (t : Fin cfg0.N) : (dats m 0 c).after 1 t = (outsAt0 m c t).1 := by dsimp only [dats]
/-- What the body leaves in output window 2: the run's contents. -/
theorem after0_2 (c : Dev nD) (t : Fin cfg0.N) : (dats m 0 c).after 2 t = (outsAt0 m c t).2.1 := by dsimp only [dats]
/-- What the body leaves in output window 3: the run's contents. -/
theorem after0_3 (c : Dev nD) (t : Fin cfg0.N) : (dats m 0 c).after 3 t = (outsAt0 m c t).2.2.1 := by dsimp only [dats]
/-- What the body leaves in output window 4: the run's contents. -/
theorem after0_4 (c : Dev nD) (t : Fin cfg0.N) : (dats m 0 c).after 4 t = (outsAt0 m c t).2.2.2.1 := by dsimp only [dats]
/-- What the body leaves in output window 5: the run's contents. -/
theorem after0_5 (c : Dev nD) (t : Fin cfg0.N) : (dats m 0 c).after 5 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the input's buffer holds its block, so the triple applies; the invariant hands the body its scratch
    buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run c _ _ _ _ _ _ _ _ _ _ _ _ _ _ _ _ (iblk m c 0 t) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Body

end
-- ==== Proof.KernelIdealKit.lean ====
module

public import proofs.«01_k».proof.Proof.Gen.KernelIdeal.Loops
public import proofs.«01_k».proof.Proof.Gen.KernelIdeal.Frame
public import Idealize.ShloMosaic.Lib.WholeRead

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-! ## The kernel body on any staging memrefs: a subtype the run finds -/

/-- One staging buffer of output window 1, through which its contents are stated (`View.read_writes_of_cover`: the
    choice does not matter). -/
abbrev VO0_1 : View sig .tc .vmem S2x128 .i32 := (Memref.whole cc0_stg1_0 : Memref sig .tc .vmem S2x128 .i32).view
/-- One staging buffer of output window 2, through which its contents are stated (`View.read_writes_of_cover`: the
    choice does not matter). -/
abbrev VO0_2 : View sig .tc .vmem S2x128 .f32 := (Memref.whole cc0_stg2_0 : Memref sig .tc .vmem S2x128 .f32).view
/-- One staging buffer of output window 3, through which its contents are stated (`View.read_writes_of_cover`: the
    choice does not matter). -/
abbrev VO0_3 : View sig .tc .vmem S2x128 .f32 := (Memref.whole cc0_stg3_0 : Memref sig .tc .vmem S2x128 .f32).view
/-- One staging buffer of output window 4, through which its contents are stated (`View.read_writes_of_cover`: the
    choice does not matter). -/
abbrev VO0_4 : View sig .tc .vmem S2048x128 .f32 := (Memref.whole cc0_stg4_0 : Memref sig .tc .vmem S2048x128 .f32).view
/-- One staging buffer of output window 5, through which its contents are stated (`View.read_writes_of_cover`: the
    choice does not matter). -/
abbrev VO0_5 : View sig .tc .smem S2 .f32 := (Memref.whole cc0_stg5_0 : Memref sig .tc .smem S2 .f32).view
/-- Each window's current staging memref at point `t`, spelled as the pipeline passes it (`bodyAt0`), and its wholeness. -/
abbrev ms0_0 (t : Fin cfg0.N) : Memref sig .tc .vmem S17x2x128 .bf16 := win0_0.stage (cfg0.slots t 0)
/-- Window 0's staging memref is a whole buffer. -/
abbrev hs0_0 (t : Fin cfg0.N) : (ms0_0 t).IsWhole := hstage0_0 0
/-- Window 1's staging memref at point `t`. -/
abbrev ms0_1 (t : Fin cfg0.N) : Memref sig .tc .vmem S2x128 .i32 := win0_1.stage (cfg0.slots t 1)
/-- Window 1's staging memref is a whole buffer. -/
abbrev hs0_1 (t : Fin cfg0.N) : (ms0_1 t).IsWhole := hstage0_1 0
/-- Window 2's staging memref at point `t`. -/
abbrev ms0_2 (t : Fin cfg0.N) : Memref sig .tc .vmem S2x128 .f32 := win0_2.stage (cfg0.slots t 2)
/-- Window 2's staging memref is a whole buffer. -/
abbrev hs0_2 (t : Fin cfg0.N) : (ms0_2 t).IsWhole := hstage0_2 0
/-- Window 3's staging memref at point `t`. -/
abbrev ms0_3 (t : Fin cfg0.N) : Memref sig .tc .vmem S2x128 .f32 := win0_3.stage (cfg0.slots t 3)
/-- Window 3's staging memref is a whole buffer. -/
abbrev hs0_3 (t : Fin cfg0.N) : (ms0_3 t).IsWhole := hstage0_3 0
/-- Window 4's staging memref at point `t`. -/
abbrev ms0_4 (t : Fin cfg0.N) : Memref sig .tc .vmem S2048x128 .f32 := win0_4.stage (cfg0.slots t 4)
/-- Window 4's staging memref is a whole buffer. -/
abbrev hs0_4 (t : Fin cfg0.N) : (ms0_4 t).IsWhole := hstage0_4 0
/-- Window 5's staging memref at point `t`. -/
abbrev ms0_5 (t : Fin cfg0.N) : Memref sig .tc .smem S2 .f32 := win0_5.stage (cfg0.slots t 5)
/-- Window 5's staging memref is a whole buffer. -/
abbrev hs0_5 (t : Fin cfg0.N) : (ms0_5 t).IsWhole := hstage0_5 0
/-- The scratch operands: whole scoped buffers of the kernel's own, passed beside the windows. -/
abbrev scM0_0 : Memref sig .tc .vmem S128x512 .f32 := Memref.whole cc0_scratch0
/-- The second scratch array. -/
abbrev scM0_1 : Memref sig .tc .vmem S256x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The bit the kernel branches on: both batch rows have every code's log probability high enough for the product of tables. -/
def fastOk (x0 : Vec F S17x2x128 .bf16) : BitVec 1 :=
  Scalar.andi (Scalar.cmpf .oge (k0_pay64 (k0_pay54 x0) (k0_pay55 x0)) (Scalar.ofBits .f32 0xC2BF4F02#32))
    (Scalar.cmpf .oge (k0_pay101 (k0_pay97 (k0_pay50 x0)) (k0_pay98 (k0_pay50 x0))) (Scalar.ofBits .f32 0xC2BF4F02#32))

/-- The kernel takes its second, log-domain path. -/
abbrev slow (x0 : Vec F S17x2x128 .bf16) : Prop :=
  Scalar.cmpi .ne (Scalar.extui (Scalar.xori (fastOk x0) 1#1)) 0#32 = 1#1

/-- What the kernel reads of its input: the whole staging buffer. -/
abbrev xin (arg0 : Memref sig .tc .vmem S17x2x128 .bf16) (harg0 : arg0.IsWhole) (x0 : Vec F S17x2x128 .bf16) : Vec F S17x2x128 .bf16 :=
  View.readAt (Elt F) arg0.view (Rect.unit (s := S17x2x128) ![0, 0, 0] S17x2x128.size inb_S17x2x128_S17x2x128_0_0_0).toLoadRect (harg0.unread x0)

/-- Reading the whole buffer gives its contents. -/
theorem xin_eq (arg0 : Memref sig .tc .vmem S17x2x128 .bf16) (harg0 : arg0.IsWhole) (x0 : Vec F S17x2x128 .bf16) : xin arg0 harg0 x0 = x0 := by
  funext i
  refine (Memref.IsWhole.readAt_unread harg0 x0 (Rect.unit (s := S17x2x128) ![0, 0, 0] S17x2x128.size inb_S17x2x128_S17x2x128_0_0_0).toLoadRect i).trans (congrArg x0 ?_)
  funext a; apply Fin.ext
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

end Cert.KernelIdeal.Body

end
-- ==== Proof.KernelIdealFast.lean ====
module

public import proofs.«01_k».proof.Proof.KernelIdealKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- What the body's stores leave in each output's staging buffer, as pieces (last first), when the kernel does not take its log-domain path,
    with the proof that the body, on whole staging buffers holding `x0` and anything else, runs to the continuation that holds them. -/
noncomputable def runFast (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) :
    Σ' (L1 : List (View.Piece (Elt F) S2x128 .i32)), Σ' (L2 : List (View.Piece (Elt F) S2x128 .f32)), Σ' (L3 : List (View.Piece (Elt F) S2x128 .f32)), Σ' (L4 : List (View.Piece (Elt F) S2048x128 .f32)), { L5 : List (View.Piece (Elt F) S2 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d)) -∗ K ⟨⟩))
          ⊢ wp frame (wpE (defs₀ (F := F)) Variants.none c none) E (cc0_lfq_usage arg0 harg0 arg1 harg1 arg2 harg2 arg3 harg3 arg4 harg4 arg5 harg5 arg6 harg6 arg7 harg7) K } := by
  refine ⟨?_, ?_, ?_, ?_, ?_, fun E K => ?run⟩
  case run =>
    simp only [cc0_lfq_usage_eq_skeleton]; unfold cc0_lfq_usage_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg0.eq_unread hf0
    sl_exec (disch := exact hc)
    sl_step
    iapply Hk
    isplitl [H0]
    · iexists _; isplitr; · ipureintro; exact harg0.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.KernelIdeal.Body

end
-- ==== Proof.KernelIdealSlow.lean ====
module

public import proofs.«01_k».proof.Proof.KernelIdealKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- What the body's stores leave in each output's staging buffer, as pieces (last first), when the kernel takes its log-domain path,
    with the proof that the body, on whole staging buffers holding `x0` and anything else, runs to the continuation that holds them. -/
noncomputable def runSlow (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) :
    Σ' (L1 : List (View.Piece (Elt F) S2x128 .i32)), Σ' (L2 : List (View.Piece (Elt F) S2x128 .f32)), Σ' (L3 : List (View.Piece (Elt F) S2x128 .f32)), Σ' (L4 : List (View.Piece (Elt F) S2048x128 .f32)), { L5 : List (View.Piece (Elt F) S2 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d)) -∗ K ⟨⟩))
          ⊢ wp frame (wpE (defs₀ (F := F)) Variants.none c none) E (cc0_lfq_usage arg0 harg0 arg1 harg1 arg2 harg2 arg3 harg3 arg4 harg4 arg5 harg5 arg6 harg6 arg7 harg7) K } := by
  refine ⟨?_, ?_, ?_, ?_, ?_, fun E K => ?run⟩
  case run =>
    simp only [cc0_lfq_usage_eq_skeleton]; unfold cc0_lfq_usage_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part1_eq_skeleton, k0_part20_eq_skeleton, k0_part21_eq_skeleton, k0_part22_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg0.eq_unread hf0
    sl_exec (disch := exact hc)
    sl_step
    iapply Hk
    isplitl [H0]
    · iexists _; isplitr; · ipureintro; exact harg0.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    isplitl [HS0]
    · iexists _, _; isplitr; swap; · iexact HS0
      ipureintro; rfl
    iexists _, _; isplitr; swap; · iexact HS1
    ipureintro; rfl

end Cert.KernelIdeal.Body

end
-- ==== Proof.KernelIdealBody.lean ====
module

public import proofs.«01_k».proof.Proof.KernelIdealFast
public import proofs.«01_k».proof.Proof.KernelIdealSlow
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A row and a lane of the block of rows with one parity that starts at row `o` of the usage output. -/
theorem mem_rows {o : Nat} {inb sp} (y : S2048x128.Idx) (h1 : o ≤ (y 0).val) (h2 : (y 0).val < o + 512) (h3 : (y 0).val % 2 = o % 2) :
    y ∈ (⟨(⟨![o, 0], S256x128.size, ![2, 1], inb⟩ : LoadRect S2048x128), sp⟩ : Rect S2048x128).set := by
  refine (LoadRect.mem_set _).mpr ?_
  intro a
  match a with
  | ⟨0, _⟩ =>
    refine ⟨((y 0).val - o) / 2, ?_, ?_⟩
    · show ((y 0).val - o) / 2 < 256; omega
    · show (y 0).val = o + 2 * (((y 0).val - o) / 2); omega
  | ⟨1, _⟩ =>
    refine ⟨(y 1).val, (y 1).isLt, ?_⟩
    show (y 1).val = 0 + 1 * (y 1).val; omega

/-- What one of the later pieces covers, the whole list of pieces covers. -/
theorem mem_app {S : Shape} {e : EltTy} (A L : List (View.Piece (Elt F) S e)) (y : S.Idx) (h : ∃ pc ∈ L, y ∈ pc.1.set) :
    ∃ pc ∈ A ++ L, y ∈ pc.1.set := by
  obtain ⟨p, hp, hy⟩ := h
  exact ⟨p, List.mem_append_right _ hp, hy⟩

/-- The eight blocks of rows are the whole usage output. -/
theorem mem_eight (w0 w1 w2 w3 w4 w5 w6 w7 : Vec F S256x128 .f32) (y : S2048x128.Idx) :
    ∃ pc ∈ ([⟨(⟨(⟨![1537, 0], S256x128.size, ![2, 1], inb_S2048x128_S256x128_1537_0_s_2_1⟩ : LoadRect S2048x128), spos_2_1⟩ : Rect S2048x128), w0⟩,
      ⟨(⟨(⟨![1025, 0], S256x128.size, ![2, 1], inb_S2048x128_S256x128_1025_0_s_2_1⟩ : LoadRect S2048x128), spos_2_1⟩ : Rect S2048x128), w1⟩,
      ⟨(⟨(⟨![513, 0], S256x128.size, ![2, 1], inb_S2048x128_S256x128_513_0_s_2_1⟩ : LoadRect S2048x128), spos_2_1⟩ : Rect S2048x128), w2⟩,
      ⟨(⟨(⟨![1, 0], S256x128.size, ![2, 1], inb_S2048x128_S256x128_1_0_s_2_1⟩ : LoadRect S2048x128), spos_2_1⟩ : Rect S2048x128), w3⟩,
      ⟨(⟨(⟨![1536, 0], S256x128.size, ![2, 1], inb_S2048x128_S256x128_1536_0_s_2_1⟩ : LoadRect S2048x128), spos_2_1⟩ : Rect S2048x128), w4⟩,
      ⟨(⟨(⟨![1024, 0], S256x128.size, ![2, 1], inb_S2048x128_S256x128_1024_0_s_2_1⟩ : LoadRect S2048x128), spos_2_1⟩ : Rect S2048x128), w5⟩,
      ⟨(⟨(⟨![512, 0], S256x128.size, ![2, 1], inb_S2048x128_S256x128_512_0_s_2_1⟩ : LoadRect S2048x128), spos_2_1⟩ : Rect S2048x128), w6⟩,
      ⟨(⟨(⟨![0, 0], S256x128.size, ![2, 1], inb_S2048x128_S256x128_0_0_s_2_1⟩ : LoadRect S2048x128), spos_2_1⟩ : Rect S2048x128), w7⟩] : List (View.Piece (Elt F) S2048x128 .f32)), y ∈ pc.1.set := by
  have hy : (y 0).val < 2048 := (y 0).isLt
  simp only [List.exists_mem_cons_iff]
  rcases Nat.mod_two_eq_zero_or_one (y 0).val with hp | hp
  · by_cases h0 : (y 0).val < 512
    · exact Or.inr (Or.inr (Or.inr (Or.inr (Or.inr (Or.inr (Or.inr (Or.inl (mem_rows (o := 0) (sp := spos_2_1) y (by omega) (by omega) (by omega)))))))))
    by_cases h1 : (y 0).val < 1024
    · exact Or.inr (Or.inr (Or.inr (Or.inr (Or.inr (Or.inr (Or.inl (mem_rows (o := 512) (sp := spos_2_1) y (by omega) (by omega) (by omega))))))))
    by_cases h2 : (y 0).val < 1536
    · exact Or.inr (Or.inr (Or.inr (Or.inr (Or.inr (Or.inl (mem_rows (o := 1024) (sp := spos_2_1) y (by omega) (by omega) (by omega)))))))
    exact Or.inr (Or.inr (Or.inr (Or.inr (Or.inl (mem_rows (o := 1536) (sp := spos_2_1) y (by omega) (by omega) (by omega))))))
  · by_cases h0 : (y 0).val < 512
    · exact Or.inr (Or.inr (Or.inr (Or.inl (mem_rows (o := 1) (sp := spos_2_1) y (by omega) (by omega) (by omega)))))
    by_cases h1 : (y 0).val < 1024
    · exact Or.inr (Or.inr (Or.inl (mem_rows (o := 513) (sp := spos_2_1) y (by omega) (by omega) (by omega))))
    by_cases h2 : (y 0).val < 1536
    · exact Or.inr (Or.inl (mem_rows (o := 1025) (sp := spos_2_1) y (by omega) (by omega) (by omega)))
    exact Or.inl (mem_rows (o := 1537) (sp := spos_2_1) y (by omega) (by omega) (by omega))

/-- The stores the run found for output 1 reach every element. -/
theorem coverFast1 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2x128.Idx) :
    ∃ pc ∈ (runFast c arg0 harg0 arg1 harg1 arg2 harg2 arg3 harg3 arg4 harg4 arg5 harg5 arg6 harg6 arg7 harg7 x0 hc).1, y ∈ pc.1.set :=
  View.cover_of_tiledL (runFast c arg0 harg0 arg1 harg1 arg2 harg2 arg3 harg3 arg4 harg4 arg5 harg5 arg6 harg6 arg7 harg7 x0 hc).1 S1x128.size (by sl_kernel_rfl) y

/-- The stores the run found for output 2 reach every element. -/
theorem coverFast2 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2x128.Idx) :
    ∃ pc ∈ (runFast c arg0 harg0 arg1 harg1 arg2 harg2 arg3 harg3 arg4 harg4 arg5 harg5 arg6 harg6 arg7 harg7 x0 hc).2.1, y ∈ pc.1.set :=
  View.cover_of_tiledL (runFast c arg0 harg0 arg1 harg1 arg2 harg2 arg3 harg3 arg4 harg4 arg5 harg5 arg6 harg6 arg7 harg7 x0 hc).2.1 S1x128.size (by sl_kernel_rfl) y

/-- The stores the run found for output 3 reach every element. -/
theorem coverFast3 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2x128.Idx) :
    ∃ pc ∈ (runFast c arg0 harg0 arg1 harg1 arg2 harg2 arg3 harg3 arg4 harg4 arg5 harg5 arg6 harg6 arg7 harg7 x0 hc).2.2.1, y ∈ pc.1.set :=
  View.cover_of_tiledL (runFast c arg0 harg0 arg1 harg1 arg2 harg2 arg3 harg3 arg4 harg4 arg5 harg5 arg6 harg6 arg7 harg7 x0 hc).2.2.1 S1x128.size (by sl_kernel_rfl) y

/-- The stores the run found for output 5 reach every element. -/
theorem coverFast5 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2.Idx) :
    ∃ pc ∈ (runFast c arg0 harg0 arg1 harg1 arg2 harg2 arg3 harg3 arg4 harg4 arg5 harg5 arg6 harg6 arg7 harg7 x0 hc).2.2.2.2.1, y ∈ pc.1.set :=
  View.cover_of_tiledL (runFast c arg0 harg0 arg1 harg1 arg2 harg2 arg3 harg3 arg4 harg4 arg5 harg5 arg6 harg6 arg7 harg7 x0 hc).2.2.2.2.1 S1.size (by sl_kernel_rfl) y

/-- The eight strided stores of the first path reach every element of the usage output. -/
theorem coverFast4 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : ¬ slow (xin arg0 harg0 x0)) (y : S2048x128.Idx) :
    ∃ pc ∈ (runFast c arg0 harg0 arg1 harg1 arg2 harg2 arg3 harg3 arg4 harg4 arg5 harg5 arg6 harg6 arg7 harg7 x0 hc).2.2.2.1, y ∈ pc.1.set := by
  unfold runFast; dsimp only
  exact mem_eight _ _ _ _ _ _ _ _ y

/-- The stores the run found for output 1 reach every element. -/
theorem coverSlow1 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2x128.Idx) :
    ∃ pc ∈ (runSlow c arg0 harg0 arg1 harg1 arg2 harg2 arg3 harg3 arg4 harg4 arg5 harg5 arg6 harg6 arg7 harg7 x0 hc).1, y ∈ pc.1.set :=
  View.cover_of_tiledL (runSlow c arg0 harg0 arg1 harg1 arg2 harg2 arg3 harg3 arg4 harg4 arg5 harg5 arg6 harg6 arg7 harg7 x0 hc).1 S1x128.size (by sl_kernel_rfl) y

/-- The stores the run found for output 2 reach every element. -/
theorem coverSlow2 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2x128.Idx) :
    ∃ pc ∈ (runSlow c arg0 harg0 arg1 harg1 arg2 harg2 arg3 harg3 arg4 harg4 arg5 harg5 arg6 harg6 arg7 harg7 x0 hc).2.1, y ∈ pc.1.set :=
  View.cover_of_tiledL (runSlow c arg0 harg0 arg1 harg1 arg2 harg2 arg3 harg3 arg4 harg4 arg5 harg5 arg6 harg6 arg7 harg7 x0 hc).2.1 S1x128.size (by sl_kernel_rfl) y

/-- The stores the run found for output 3 reach every element. -/
theorem coverSlow3 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2x128.Idx) :
    ∃ pc ∈ (runSlow c arg0 harg0 arg1 harg1 arg2 harg2 arg3 harg3 arg4 harg4 arg5 harg5 arg6 harg6 arg7 harg7 x0 hc).2.2.1, y ∈ pc.1.set :=
  View.cover_of_tiledL (runSlow c arg0 harg0 arg1 harg1 arg2 harg2 arg3 harg3 arg4 harg4 arg5 harg5 arg6 harg6 arg7 harg7 x0 hc).2.2.1 S1x128.size (by sl_kernel_rfl) y

/-- The stores the run found for output 5 reach every element. -/
theorem coverSlow5 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2.Idx) :
    ∃ pc ∈ (runSlow c arg0 harg0 arg1 harg1 arg2 harg2 arg3 harg3 arg4 harg4 arg5 harg5 arg6 harg6 arg7 harg7 x0 hc).2.2.2.2.1, y ∈ pc.1.set :=
  View.cover_of_tiledL (runSlow c arg0 harg0 arg1 harg1 arg2 harg2 arg3 harg3 arg4 harg4 arg5 harg5 arg6 harg6 arg7 harg7 x0 hc).2.2.2.2.1 S1.size (by sl_kernel_rfl) y

/-- The eight strided stores of the first path reach every element of the usage output. -/
theorem coverSlow4 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (hc : slow (xin arg0 harg0 x0)) (y : S2048x128.Idx) :
    ∃ pc ∈ (runSlow c arg0 harg0 arg1 harg1 arg2 harg2 arg3 harg3 arg4 harg4 arg5 harg5 arg6 harg6 arg7 harg7 x0 hc).2.2.2.1, y ∈ pc.1.set := by
  unfold runSlow; dsimp only
  refine mem_app _ _ _ ?_
  refine mem_app _ _ _ ?_
  exact mem_eight _ _ _ _ _ _ _ _ y

open Classical in
/-- What the body leaves in output 1's staging buffer: the stores of the path it takes, read back. -/
def out1 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2x128 .i32 :=
  if hc : slow (xin arg0 harg0 x0) then VO0_1.read (Elt F) (VO0_1.writes (Elt F) VO0_1.junk (runSlow c arg0 harg0 arg1 harg1 arg2 harg2 arg3 harg3 arg4 harg4 arg5 harg5 arg6 harg6 arg7 harg7 x0 hc).1)
  else VO0_1.read (Elt F) (VO0_1.writes (Elt F) VO0_1.junk (runFast c arg0 harg0 arg1 harg1 arg2 harg2 arg3 harg3 arg4 harg4 arg5 harg5 arg6 harg6 arg7 harg7 x0 hc).1)

open Classical in
/-- What the body leaves in output 2's staging buffer: the stores of the path it takes, read back. -/
def out2 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2x128 .f32 :=
  if hc : slow (xin arg0 harg0 x0) then VO0_2.read (Elt F) (VO0_2.writes (Elt F) VO0_2.junk (runSlow c arg0 harg0 arg1 harg1 arg2 harg2 arg3 harg3 arg4 harg4 arg5 harg5 arg6 harg6 arg7 harg7 x0 hc).2.1)
  else VO0_2.read (Elt F) (VO0_2.writes (Elt F) VO0_2.junk (runFast c arg0 harg0 arg1 harg1 arg2 harg2 arg3 harg3 arg4 harg4 arg5 harg5 arg6 harg6 arg7 harg7 x0 hc).2.1)

open Classical in
/-- What the body leaves in output 3's staging buffer: the stores of the path it takes, read back. -/
def out3 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2x128 .f32 :=
  if hc : slow (xin arg0 harg0 x0) then VO0_3.read (Elt F) (VO0_3.writes (Elt F) VO0_3.junk (runSlow c arg0 harg0 arg1 harg1 arg2 harg2 arg3 harg3 arg4 harg4 arg5 harg5 arg6 harg6 arg7 harg7 x0 hc).2.2.1)
  else VO0_3.read (Elt F) (VO0_3.writes (Elt F) VO0_3.junk (runFast c arg0 harg0 arg1 harg1 arg2 harg2 arg3 harg3 arg4 harg4 arg5 harg5 arg6 harg6 arg7 harg7 x0 hc).2.2.1)

open Classical in
/-- What the body leaves in output 4's staging buffer: the stores of the path it takes, read back. -/
def out4 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2048x128 .f32 :=
  if hc : slow (xin arg0 harg0 x0) then VO0_4.read (Elt F) (VO0_4.writes (Elt F) VO0_4.junk (runSlow c arg0 harg0 arg1 harg1 arg2 harg2 arg3 harg3 arg4 harg4 arg5 harg5 arg6 harg6 arg7 harg7 x0 hc).2.2.2.1)
  else VO0_4.read (Elt F) (VO0_4.writes (Elt F) VO0_4.junk (runFast c arg0 harg0 arg1 harg1 arg2 harg2 arg3 harg3 arg4 harg4 arg5 harg5 arg6 harg6 arg7 harg7 x0 hc).2.2.2.1)

open Classical in
/-- What the body leaves in output 5's staging buffer: the stores of the path it takes, read back. -/
def out5 (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) : Vec F S2 .f32 :=
  if hc : slow (xin arg0 harg0 x0) then VO0_5.read (Elt F) (VO0_5.writes (Elt F) VO0_5.junk (runSlow c arg0 harg0 arg1 harg1 arg2 harg2 arg3 harg3 arg4 harg4 arg5 harg5 arg6 harg6 arg7 harg7 x0 hc).2.2.2.2.1)
  else VO0_5.read (Elt F) (VO0_5.writes (Elt F) VO0_5.junk (runFast c arg0 harg0 arg1 harg1 arg2 harg2 arg3 harg3 arg4 harg4 arg5 harg5 arg6 harg6 arg7 harg7 x0 hc).2.2.2.2.1)

/-- The stores' contents do not depend on what the buffers held: the two paths' triple with the contents `outK`. -/
theorem run (c : Dev nD) (arg0 : Memref sig .tc .vmem S17x2x128 .bf16) (harg0 : arg0.IsWhole) (arg1 : Memref sig .tc .vmem S2x128 .i32) (harg1 : arg1.IsWhole) (arg2 : Memref sig .tc .vmem S2x128 .f32) (harg2 : arg2.IsWhole) (arg3 : Memref sig .tc .vmem S2x128 .f32) (harg3 : arg3.IsWhole)
    (arg4 : Memref sig .tc .vmem S2048x128 .f32) (harg4 : arg4.IsWhole) (arg5 : Memref sig .tc .smem S2 .f32) (harg5 : arg5.IsWhole) (arg6 : Memref sig .tc .vmem S128x512 .f32) (harg6 : arg6.IsWhole) (arg7 : Memref sig .tc .vmem S256x128 .f32) (harg7 : arg7.IsWhole)
    (x0 : Vec F S17x2x128 .bf16) (E : Set ℕ) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare (out1 c arg0 harg0 arg1 harg1 arg2 harg2 arg3 harg3 arg4 harg4 arg5 harg5 arg6 harg6 arg7 harg7 x0) ∗ owns (c : Thread nD τ) arg2 fullShare (out2 c arg0 harg0 arg1 harg1 arg2 harg2 arg3 harg3 arg4 harg4 arg5 harg5 arg6 harg6 arg7 harg7 x0) ∗ owns (c : Thread nD τ) arg3 fullShare (out3 c arg0 harg0 arg1 harg1 arg2 harg2 arg3 harg3 arg4 harg4 arg5 harg5 arg6 harg6 arg7 harg7 x0) ∗ owns (c : Thread nD τ) arg4 fullShare (out4 c arg0 harg0 arg1 harg1 arg2 harg2 arg3 harg3 arg4 harg4 arg5 harg5 arg6 harg6 arg7 harg7 x0) ∗ owns (c : Thread nD τ) arg5 fullShare (out5 c arg0 harg0 arg1 harg1 arg2 harg2 arg3 harg3 arg4 harg4 arg5 harg5 arg6 harg6 arg7 harg7 x0) ∗ (∃ d, owns (c : Thread nD τ) arg6 fullShare d) ∗ (∃ d, owns (c : Thread nD τ) arg7 fullShare d)) -∗ K ⟨⟩))
      ⊢ wp frame (wpE (defs₀ (F := F)) Variants.none c none) E (cc0_lfq_usage arg0 harg0 arg1 harg1 arg2 harg2 arg3 harg3 arg4 harg4 arg5 harg5 arg6 harg6 arg7 harg7) K := by
  by_cases hc : slow (xin arg0 harg0 x0)
  · unfold out1 out2 out3 out4 out5
    simp only [dif_pos hc]
    iintro ⟨H0, H1, H2, H3, H4, H5, HS0, HS1, Hk⟩
    iapply ((runSlow c arg0 harg0 arg1 harg1 arg2 harg2 arg3 harg3 arg4 harg4 arg5 harg5 arg6 harg6 arg7 harg7 x0 hc).2.2.2.2.2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, ⟨%e1, H1⟩, ⟨%e2, H2⟩, ⟨%e3, H3⟩, ⟨%e4, H4⟩, ⟨%e5, H5⟩, HS0, HS1⟩
    iapply Hk
    isplitl [H0]; · iexact H0
    isplitl [H1]
    · unfold owns; iexists _; isplitr
      swap; · iexact H1
      ipureintro; exact View.read_writes_of_cover _ _ _ _ _ (coverSlow1 c _ _ _ _ _ _ _ _ _ _ _ _ _ _ _ _ _ hc)
    isplitl [H2]
    · unfold owns; iexists _; isplitr
      swap; · iexact H2
      ipureintro; exact View.read_writes_of_cover _ _ _ _ _ (coverSlow2 c _ _ _ _ _ _ _ _ _ _ _ _ _ _ _ _ _ hc)
    isplitl [H3]
    · unfold owns; iexists _; isplitr
      swap; · iexact H3
      ipureintro; exact View.read_writes_of_cover _ _ _ _ _ (coverSlow3 c _ _ _ _ _ _ _ _ _ _ _ _ _ _ _ _ _ hc)
    isplitl [H4]
    · unfold owns; iexists _; isplitr
      swap; · iexact H4
      ipureintro; exact View.read_writes_of_cover _ _ _ _ _ (coverSlow4 c _ _ _ _ _ _ _ _ _ _ _ _ _ _ _ _ _ hc)
    isplitl [H5]
    · unfold owns; iexists _; isplitr
      swap; · iexact H5
      ipureintro; exact View.read_writes_of_cover _ _ _ _ _ (coverSlow5 c _ _ _ _ _ _ _ _ _ _ _ _ _ _ _ _ _ hc)
    isplitl [HS0]; · iexact HS0
    iexact HS1
  · unfold out1 out2 out3 out4 out5
    simp only [dif_neg hc]
    iintro ⟨H0, H1, H2, H3, H4, H5, HS0, HS1, Hk⟩
    iapply ((runFast c arg0 harg0 arg1 harg1 arg2 harg2 arg3 harg3 arg4 harg4 arg5 harg5 arg6 harg6 arg7 harg7 x0 hc).2.2.2.2.2 E K)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, ⟨%e1, H1⟩, ⟨%e2, H2⟩, ⟨%e3, H3⟩, ⟨%e4, H4⟩, ⟨%e5, H5⟩, HS0, HS1⟩
    iapply Hk
    isplitl [H0]; · iexact H0
    isplitl [H1]
    · unfold owns; iexists _; isplitr
      swap; · iexact H1
      ipureintro; exact View.read_writes_of_cover _ _ _ _ _ (coverFast1 c _ _ _ _ _ _ _ _ _ _ _ _ _ _ _ _ _ hc)
    isplitl [H2]
    · unfold owns; iexists _; isplitr
      swap; · iexact H2
      ipureintro; exact View.read_writes_of_cover _ _ _ _ _ (coverFast2 c _ _ _ _ _ _ _ _ _ _ _ _ _ _ _ _ _ hc)
    isplitl [H3]
    · unfold owns; iexists _; isplitr
      swap; · iexact H3
      ipureintro; exact View.read_writes_of_cover _ _ _ _ _ (coverFast3 c _ _ _ _ _ _ _ _ _ _ _ _ _ _ _ _ _ hc)
    isplitl [H4]
    · unfold owns; iexists _; isplitr
      swap; · iexact H4
      ipureintro; exact View.read_writes_of_cover _ _ _ _ _ (coverFast4 c _ _ _ _ _ _ _ _ _ _ _ _ _ _ _ _ _ hc)
    isplitl [H5]
    · unfold owns; iexists _; isplitr
      swap; · iexact H5
      ipureintro; exact View.read_writes_of_cover _ _ _ _ _ (coverFast5 c _ _ _ _ _ _ _ _ _ _ _ _ _ _ _ _ _ hc)
    isplitl [HS0]; · iexact HS0
    iexact HS1
/-! ## What the outputs hold after each point -/

/-- What the outputs' staging buffers hold after the body at point `t` (as a tuple, in window order): the run's contents at
    the point's memrefs and input blocks. -/
def outsAt0 (c : Dev nD) (t : Fin cfg0.N) : Vec F S2x128 .i32 × Vec F S2x128 .f32 × Vec F S2x128 .f32 × Vec F S2048x128 .f32 × Vec F S2 .f32 :=
  (out1 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out2 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out3 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out4 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t), out5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t).1
    | ⟨2, _⟩ => (outsAt0 m c t).2.1
    | ⟨3, _⟩ => (outsAt0 m c t).2.2.1
    | ⟨4, _⟩ => (outsAt0 m c t).2.2.2.1
    | ⟨5, _⟩ => (outsAt0 m c t).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in output window 1: the run's contents. -/
theorem after0_1 (c : Dev nD) (t : Fin cfg0.N) : (dats m 0 c).after 1 t = (outsAt0 m c t).1 := by dsimp only [dats]
/-- What the body leaves in output window 2: the run's contents. -/
theorem after0_2 (c : Dev nD) (t : Fin cfg0.N) : (dats m 0 c).after 2 t = (outsAt0 m c t).2.1 := by dsimp only [dats]
/-- What the body leaves in output window 3: the run's contents. -/
theorem after0_3 (c : Dev nD) (t : Fin cfg0.N) : (dats m 0 c).after 3 t = (outsAt0 m c t).2.2.1 := by dsimp only [dats]
/-- What the body leaves in output window 4: the run's contents. -/
theorem after0_4 (c : Dev nD) (t : Fin cfg0.N) : (dats m 0 c).after 4 t = (outsAt0 m c t).2.2.2.1 := by dsimp only [dats]
/-- What the body leaves in output window 5: the run's contents. -/
theorem after0_5 (c : Dev nD) (t : Fin cfg0.N) : (dats m 0 c).after 5 t = (outsAt0 m c t).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the input's buffer holds its block, so the triple applies; the invariant hands the body its scratch
    buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply (run c _ _ _ _ _ _ _ _ _ _ _ _ _ _ _ _ (iblk m c 0 t) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame: the argument ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Body

end
-- ==== Proof.Claims.lean ====
/- The claims about runs: the three programs run, leave their argument unchanged and every counter at zero; and the ledger of
   the idealization (`preserves`), one `statement` term for each distinct entry. -/
module

public import proofs.«01_k».proof.Defs
public import proofs.«01_k».proof.Proof.KernelBody
public import proofs.«01_k».proof.Proof.KernelIdealBody
public import proofs.«01_k».proof.Proof.Gen.ReferenceIdeal.Run
public import Idealize.ShloMosaic.Lib.Bf16Pair
public import Idealize.ShloMosaic.Lib.Quiescent

@[expose] public section

noncomputable section

namespace Cert.Proof

open Idealize.ShloMosaic Idealize.SL.Sem

/-- The kernel at bit patterns: every run ends, the argument is unchanged, every counter is zero. -/
theorem frame_p : Cert.quiescent_Kernel := fun m ρ _ => Cert.Kernel.Body.frame m ρ

/-- The idealized kernel over the extended reals: every run ends, the argument is unchanged, every counter is zero. -/
theorem frame_pi : Cert.quiescent_KernelIdeal := fun m ρ _ => Cert.KernelIdeal.Body.frame m ρ

/-- The reference over the extended reals: every run ends, the argument is unchanged, every counter is zero. -/
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- Every replaced operation of the idealization is what its rule says. -/
theorem preserves : Cert.preserves_Kernel_KernelIdeal :=
  ⟨IdealRules.bf16_pair.statement _ _, IdealRules.bf16_pair.statement _ _, IdealRules.bf16_pack.statement _,
    IdealRules.bf16_pack.statement _,
    IdealRules.named_const.statement Cert.KernelIdeal.κ "scaled_offset" .f32 0xC1D2B77C#32 (((-38) * (Real.log 2) : ℝ) : EReal) rfl,
    IdealRules.named_const.statement Cert.KernelIdeal.κ "usage_offset" .f32 0x40DDCE9E#32 ((10 * (Real.log 2) : ℝ) : EReal) rfl,
    IdealRules.named_const.statement Cert.KernelIdeal.κ "log_codes" .f32 0x413C8939#32 ((17 * (Real.log 2) : ℝ) : EReal) rfl⟩

end Cert.Proof

end
-- ==== Proof.Val.Table.lean ====
/- The kernel's tables: row `m` of a table combines, for each of its channels, the row the channel's bit of `m` chooses. -/
module

public import proofs.«01_k».proof.Proof.KernelIdealKit
public import Idealize.ShloMosaic.Lib.Pointwise

@[expose] public section

set_option maxRecDepth 16384

noncomputable section

namespace Cert.Val

open Idealize.ShloMosaic Cert.KernelIdeal Cert.KernelIdeal.Gen

/-- A table's row `m` at position `s`: `e` combined with, for each channel of the list, `u` or `v` by the bit of `m` that stands at
    the channel's distance from the end of the list. -/
def tab (g : EReal → EReal → EReal) (e : EReal) (u v : Fin 17 → Fin 128 → EReal) : List (Fin 17) → ℕ → Fin 128 → EReal
  | [], _, _ => e
  | ch :: cs, m, s => g (tab g e u v cs m s) (if m.testBit cs.length then u ch s else v ch s)

/-- A table looks only at the low bits. -/
theorem tab_mod (g : EReal → EReal → EReal) (e : EReal) (u v : Fin 17 → Fin 128 → EReal) (cs : List (Fin 17)) (m n : ℕ) (s : Fin 128)
    (h : cs.length ≤ n) : tab g e u v cs (m % 2 ^ n) s = tab g e u v cs m s := by
  induction cs with
  | nil => rfl
  | cons ch cs ih =>
    simp only [List.length_cons] at h
    unfold tab
    rw [ih (by omega), Nat.testBit_mod_two_pow]
    simp [show cs.length < n by omega]

/-- A vector as a function of its two coordinates. -/
abbrev at2 {a b : ℕ} (x : FVec Ideal ⟨2, ![a, b]⟩ .f32) : Fin a → Fin b → EReal := fun i j => x (ix2 i j)

/-- One concatenation step, with the two rows read off the vectors. -/
theorem cat_apply {N N₂ : ℕ} (hN : N₂ = N + N)
    (f : FVec Ideal ⟨2, ![N, 128]⟩ .f32 → FVec Ideal ⟨2, ![N, 128]⟩ .f32 → FVec Ideal ⟨2, ![N, 128]⟩ .f32)
    (g : EReal → EReal → EReal) (hf : ∀ t w i, f t w i = g (t i) (w i)) (t : FVec Ideal ⟨2, ![N, 128]⟩ .f32)
    (z o : FVec Ideal S1x128 .f32) (hb : S1x128.Broadcasts ⟨2, ![N, 128]⟩)
    (hc : Shape.Concatenates [(⟨2, ![N, 128]⟩ : Shape), ⟨2, ![N, 128]⟩] ⟨2, ![N₂, 128]⟩ 0) (m : Fin N₂) (s : Fin 128) :
    (concatenate ⟨2, ![N₂, 128]⟩ 0 [⟨⟨2, ![N, 128]⟩, f t (broadcastTo ⟨2, ![N, 128]⟩ z hb)⟩,
      ⟨⟨2, ![N, 128]⟩, f t (broadcastTo ⟨2, ![N, 128]⟩ o hb)⟩] hc : FVec Ideal ⟨2, ![N₂, 128]⟩ .f32) (ix2 m s)
    = if h : m.val < N then g (t (ix2 ⟨m.val, h⟩ s)) (z (ix2 0 s)) else g (t (ix2 ⟨m.val - N, by omega⟩ s)) (o (ix2 0 s)) := by
  pointwise [hf]
  split
  · refine congr_arg₂ g (congr_arg t ?_) (congr_arg z ?_)
    · rw [Shape.Idx.norm_def]; funext b; fin_cases b <;> rfl
    · rw [Shape.Idx.norm_def]; funext b; fin_cases b <;> rfl
  · refine congr_arg₂ g (congr_arg t ?_) (congr_arg o ?_)
    · rw [Shape.Idx.norm_def]; funext b; fin_cases b <;> rfl
    · rw [Shape.Idx.norm_def]; funext b; fin_cases b <;> rfl

/-- One concatenation step adds one channel to a table. -/
theorem cat_tab {N N₂ : ℕ} (hN : N₂ = N + N)
    (f : FVec Ideal ⟨2, ![N, 128]⟩ .f32 → FVec Ideal ⟨2, ![N, 128]⟩ .f32 → FVec Ideal ⟨2, ![N, 128]⟩ .f32)
    (g : EReal → EReal → EReal) (hf : ∀ t w i, f t w i = g (t i) (w i)) (t : FVec Ideal ⟨2, ![N, 128]⟩ .f32)
    (z o : FVec Ideal S1x128 .f32) (hb : S1x128.Broadcasts ⟨2, ![N, 128]⟩)
    (hc : Shape.Concatenates [(⟨2, ![N, 128]⟩ : Shape), ⟨2, ![N, 128]⟩] ⟨2, ![N₂, 128]⟩ 0)
    (e : EReal) (u v : Fin 17 → Fin 128 → EReal) (ch : Fin 17) (cs : List (Fin 17)) (hl : N = 2 ^ cs.length)
    (ht : ∀ (m : Fin N) (s : Fin 128), t (ix2 m s) = tab g e u v cs m.val s)
    (hz : ∀ s, z (ix2 0 s) = v ch s) (ho : ∀ s, o (ix2 0 s) = u ch s) (m : Fin N₂) (s : Fin 128) :
    (concatenate ⟨2, ![N₂, 128]⟩ 0 [⟨⟨2, ![N, 128]⟩, f t (broadcastTo ⟨2, ![N, 128]⟩ z hb)⟩,
      ⟨⟨2, ![N, 128]⟩, f t (broadcastTo ⟨2, ![N, 128]⟩ o hb)⟩] hc : FVec Ideal ⟨2, ![N₂, 128]⟩ .f32) (ix2 m s)
    = tab g e u v (ch :: cs) m.val s := by
  rw [cat_apply hN f g hf]
  have hm := m.isLt
  split
  · rename_i h
    rw [ht, hz]
    have : m.val.testBit cs.length = false := Nat.testBit_lt_two_pow (by omega)
    simp [tab, this]
  · rename_i h
    have h1 : m.val - N = m.val % 2 ^ cs.length := by
      rw [← hl, Nat.mod_eq_sub_mod (by omega), Nat.mod_eq_of_lt (by omega)]
    have h2 : m.val.testBit cs.length = true := by
      rw [Nat.testBit_eq_decide_div_mod_eq, ← hl]
      have : m.val / N = 1 := by
        rw [Nat.div_eq_iff (by omega)]; omega
      simp [this]
    rw [ht, ho]
    show g (tab g e u v cs (m.val - N) s) _ = _
    rw [h1, tab_mod _ _ _ _ _ _ _ _ le_rfl]
    simp [tab, h2]

/-- A row of the eight: the one a bit of the row's number chooses. -/
def low (n : BitVec 32) (o z : FVec Ideal S1x128 .f32) : FVec Ideal S8x128 .f32 :=
  select (cmpi .eq (andi (shrsi (iota .tc S8x128 32 [0] iota_S8x128_d0_w32) (broadcast S8x128 n)) (broadcast S8x128 1#32)) (broadcast S8x128 1#32))
    (broadcastTo S8x128 (shapeCast S1x128 o shapeCasts_S1x128_S1x128) broadcasts_S1x128_S8x128)
    (broadcastTo S8x128 (shapeCast S1x128 z shapeCasts_S1x128_S1x128) broadcasts_S1x128_S8x128)

/-- A row of the eight, at an index. -/
theorem low_apply (n : ℕ) (hn : n < 3) (o z : FVec Ideal S1x128 .f32) (m : Fin 8) (s : Fin 128) :
    low (BitVec.ofNat 32 n) o z (ix2 m s) = if m.val.testBit n then o (ix2 0 s) else z (ix2 0 s) := by
  pointwise [low]
  have : IntOp.cmpi CmpIPredicate.eq (IntOp.andi (IntOp.shrsi ArithUnit.vector (BitVec.ofNat 32 m.val) (BitVec.ofNat 32 n)) 1#32) 1#32
      = if m.val.testBit n = true then 1#1 else 0#1 := by
    interval_cases n <;> fin_cases m <;> decide
  rw [this]
  split <;> rfl

/-- Row `ch` of a vector of channels. -/
def row (x : FVec Ideal S17x128 .f32) (ch : ℕ) (h : S17x128.Slices ![ch, 0] S1x128) : FVec Ideal S1x128 .f32 :=
  extractStridedSlice S1x128 ![ch, 0] x h

/-- Row `ch` at an index. -/
theorem row_apply (x : FVec Ideal S17x128 .f32) (ch : Fin 17) (h : S17x128.Slices ![ch.val, 0] S1x128) (s : Fin 128) :
    row x ch.val h (ix2 0 s) = x (ix2 ch s) := by
  pointwise [row]

/-- The table of 256 rows over its channels, built from a vector of eight rows over the last three. -/
def tblA (f : ∀ S : Shape, FVec Ideal S .f32 → FVec Ideal S .f32 → FVec Ideal S .f32) (t : FVec Ideal S8x128 .f32) (o z : FVec Ideal S17x128 .f32) : FVec Ideal S256x128 .f32 :=
  have t16 : FVec Ideal S16x128 .f32 := concatenate S16x128 0 [⟨S8x128, f _ t (broadcastTo S8x128 (row z 6 slices_S17x128_o6_0_S1x128) broadcasts_S1x128_S8x128)⟩, ⟨S8x128, f _ t (broadcastTo S8x128 (row o 6 slices_S17x128_o6_0_S1x128) broadcasts_S1x128_S8x128)⟩] concatenates_S8x128_S8x128_S16x128_d0
  have t32 : FVec Ideal S32x128 .f32 := concatenate S32x128 0 [⟨S16x128, f _ t16 (broadcastTo S16x128 (row z 5 slices_S17x128_o5_0_S1x128) broadcasts_S1x128_S16x128)⟩, ⟨S16x128, f _ t16 (broadcastTo S16x128 (row o 5 slices_S17x128_o5_0_S1x128) broadcasts_S1x128_S16x128)⟩] concatenates_S16x128_S16x128_S32x128_d0
  have t64 : FVec Ideal S64x128 .f32 := concatenate S64x128 0 [⟨S32x128, f _ t32 (broadcastTo S32x128 (row z 4 slices_S17x128_o4_0_S1x128) broadcasts_S1x128_S32x128)⟩, ⟨S32x128, f _ t32 (broadcastTo S32x128 (row o 4 slices_S17x128_o4_0_S1x128) broadcasts_S1x128_S32x128)⟩] concatenates_S32x128_S32x128_S64x128_d0
  have t128 : FVec Ideal S128x128 .f32 := concatenate S128x128 0 [⟨S64x128, f _ t64 (broadcastTo S64x128 (row z 3 slices_S17x128_o3_0_S1x128) broadcasts_S1x128_S64x128)⟩, ⟨S64x128, f _ t64 (broadcastTo S64x128 (row o 3 slices_S17x128_o3_0_S1x128) broadcasts_S1x128_S64x128)⟩] concatenates_S64x128_S64x128_S128x128_d0
  have t256 : FVec Ideal S256x128 .f32 := concatenate S256x128 0 [⟨S128x128, f _ t128 (broadcastTo S128x128 (row z 2 slices_S17x128_o2_0_S1x128) broadcasts_S1x128_S128x128)⟩, ⟨S128x128, f _ t128 (broadcastTo S128x128 (row o 2 slices_S17x128_o2_0_S1x128) broadcasts_S1x128_S128x128)⟩] concatenates_S128x128_S128x128_S256x128_d0
  t256

/-- The table of 256 rows at an index. -/
theorem tblA_apply (f : ∀ S : Shape, FVec Ideal S .f32 → FVec Ideal S .f32 → FVec Ideal S .f32) (g : EReal → EReal → EReal)
    (hf : ∀ S t w i, f S t w i = g (t i) (w i)) (e : EReal) (u v : Fin 17 → Fin 128 → EReal) (t : FVec Ideal S8x128 .f32)
    (o z : FVec Ideal S17x128 .f32) (ho : ∀ ch s, o (ix2 ch s) = u ch s) (hz : ∀ ch s, z (ix2 ch s) = v ch s)
    (ht : ∀ (m : Fin 8) (s : Fin 128), t (ix2 m s) = tab g e u v [7, 8, 9] m.val s) (m : Fin 256) (s : Fin 128) :
    tblA f t o z (ix2 m s) = tab g e u v [2, 3, 4, 5, 6, 7, 8, 9] m.val s := by
  unfold tblA
  refine cat_tab (by norm_num) (f _) g (hf _) _ _ _ _ _ e u v 2 _ (by rfl) (fun m s => ?_) (fun s => (row_apply z 2 _ s).trans (hz _ s)) (fun s => (row_apply o 2 _ s).trans (ho _ s)) m s
  refine cat_tab (by norm_num) (f _) g (hf _) _ _ _ _ _ e u v 3 _ (by rfl) (fun m s => ?_) (fun s => (row_apply z 3 _ s).trans (hz _ s)) (fun s => (row_apply o 3 _ s).trans (ho _ s)) m s
  refine cat_tab (by norm_num) (f _) g (hf _) _ _ _ _ _ e u v 4 _ (by rfl) (fun m s => ?_) (fun s => (row_apply z 4 _ s).trans (hz _ s)) (fun s => (row_apply o 4 _ s).trans (ho _ s)) m s
  refine cat_tab (by norm_num) (f _) g (hf _) _ _ _ _ _ e u v 5 _ (by rfl) (fun m s => ?_) (fun s => (row_apply z 5 _ s).trans (hz _ s)) (fun s => (row_apply o 5 _ s).trans (ho _ s)) m s
  refine cat_tab (by norm_num) (f _) g (hf _) _ _ _ _ _ e u v 6 _ (by rfl) (fun m s => ?_) (fun s => (row_apply z 6 _ s).trans (hz _ s)) (fun s => (row_apply o 6 _ s).trans (ho _ s)) m s
  exact ht m s

/-- The table of 512 rows over its channels, built from a vector of eight rows over the last three. -/
def tblB (f : ∀ S : Shape, FVec Ideal S .f32 → FVec Ideal S .f32 → FVec Ideal S .f32) (t : FVec Ideal S8x128 .f32) (o z : FVec Ideal S17x128 .f32) : FVec Ideal S512x128 .f32 :=
  have t16 : FVec Ideal S16x128 .f32 := concatenate S16x128 0 [⟨S8x128, f _ t (broadcastTo S8x128 (row z 13 slices_S17x128_o13_0_S1x128) broadcasts_S1x128_S8x128)⟩, ⟨S8x128, f _ t (broadcastTo S8x128 (row o 13 slices_S17x128_o13_0_S1x128) broadcasts_S1x128_S8x128)⟩] concatenates_S8x128_S8x128_S16x128_d0
  have t32 : FVec Ideal S32x128 .f32 := concatenate S32x128 0 [⟨S16x128, f _ t16 (broadcastTo S16x128 (row z 12 slices_S17x128_o12_0_S1x128) broadcasts_S1x128_S16x128)⟩, ⟨S16x128, f _ t16 (broadcastTo S16x128 (row o 12 slices_S17x128_o12_0_S1x128) broadcasts_S1x128_S16x128)⟩] concatenates_S16x128_S16x128_S32x128_d0
  have t64 : FVec Ideal S64x128 .f32 := concatenate S64x128 0 [⟨S32x128, f _ t32 (broadcastTo S32x128 (row z 11 slices_S17x128_o11_0_S1x128) broadcasts_S1x128_S32x128)⟩, ⟨S32x128, f _ t32 (broadcastTo S32x128 (row o 11 slices_S17x128_o11_0_S1x128) broadcasts_S1x128_S32x128)⟩] concatenates_S32x128_S32x128_S64x128_d0
  have t128 : FVec Ideal S128x128 .f32 := concatenate S128x128 0 [⟨S64x128, f _ t64 (broadcastTo S64x128 (row z 10 slices_S17x128_o10_0_S1x128) broadcasts_S1x128_S64x128)⟩, ⟨S64x128, f _ t64 (broadcastTo S64x128 (row o 10 slices_S17x128_o10_0_S1x128) broadcasts_S1x128_S64x128)⟩] concatenates_S64x128_S64x128_S128x128_d0
  have t256 : FVec Ideal S256x128 .f32 := concatenate S256x128 0 [⟨S128x128, f _ t128 (broadcastTo S128x128 (row z 1 slices_S17x128_o1_0_S1x128) broadcasts_S1x128_S128x128)⟩, ⟨S128x128, f _ t128 (broadcastTo S128x128 (row o 1 slices_S17x128_o1_0_S1x128) broadcasts_S1x128_S128x128)⟩] concatenates_S128x128_S128x128_S256x128_d0
  have t512 : FVec Ideal S512x128 .f32 := concatenate S512x128 0 [⟨S256x128, f _ t256 (broadcastTo S256x128 (row z 0 slices_S17x128_o0_0_S1x128) broadcasts_S1x128_S256x128)⟩, ⟨S256x128, f _ t256 (broadcastTo S256x128 (row o 0 slices_S17x128_o0_0_S1x128) broadcasts_S1x128_S256x128)⟩] concatenates_S256x128_S256x128_S512x128_d0
  t512

/-- The table of 512 rows at an index. -/
theorem tblB_apply (f : ∀ S : Shape, FVec Ideal S .f32 → FVec Ideal S .f32 → FVec Ideal S .f32) (g : EReal → EReal → EReal)
    (hf : ∀ S t w i, f S t w i = g (t i) (w i)) (e : EReal) (u v : Fin 17 → Fin 128 → EReal) (t : FVec Ideal S8x128 .f32)
    (o z : FVec Ideal S17x128 .f32) (ho : ∀ ch s, o (ix2 ch s) = u ch s) (hz : ∀ ch s, z (ix2 ch s) = v ch s)
    (ht : ∀ (m : Fin 8) (s : Fin 128), t (ix2 m s) = tab g e u v [14, 15, 16] m.val s) (m : Fin 512) (s : Fin 128) :
    tblB f t o z (ix2 m s) = tab g e u v [0, 1, 10, 11, 12, 13, 14, 15, 16] m.val s := by
  unfold tblB
  refine cat_tab (by norm_num) (f _) g (hf _) _ _ _ _ _ e u v 0 _ (by rfl) (fun m s => ?_) (fun s => (row_apply z 0 _ s).trans (hz _ s)) (fun s => (row_apply o 0 _ s).trans (ho _ s)) m s
  refine cat_tab (by norm_num) (f _) g (hf _) _ _ _ _ _ e u v 1 _ (by rfl) (fun m s => ?_) (fun s => (row_apply z 1 _ s).trans (hz _ s)) (fun s => (row_apply o 1 _ s).trans (ho _ s)) m s
  refine cat_tab (by norm_num) (f _) g (hf _) _ _ _ _ _ e u v 10 _ (by rfl) (fun m s => ?_) (fun s => (row_apply z 10 _ s).trans (hz _ s)) (fun s => (row_apply o 10 _ s).trans (ho _ s)) m s
  refine cat_tab (by norm_num) (f _) g (hf _) _ _ _ _ _ e u v 11 _ (by rfl) (fun m s => ?_) (fun s => (row_apply z 11 _ s).trans (hz _ s)) (fun s => (row_apply o 11 _ s).trans (ho _ s)) m s
  refine cat_tab (by norm_num) (f _) g (hf _) _ _ _ _ _ e u v 12 _ (by rfl) (fun m s => ?_) (fun s => (row_apply z 12 _ s).trans (hz _ s)) (fun s => (row_apply o 12 _ s).trans (ho _ s)) m s
  refine cat_tab (by norm_num) (f _) g (hf _) _ _ _ _ _ e u v 13 _ (by rfl) (fun m s => ?_) (fun s => (row_apply z 13 _ s).trans (hz _ s)) (fun s => (row_apply o 13 _ s).trans (ho _ s)) m s
  exact ht m s

/-- Multiplication of vectors. -/
def fmul (S : Shape) (a b : FVec Ideal S .f32) : FVec Ideal S .f32 := mulf a b

/-- Addition of vectors. -/
def fadd (S : Shape) (a b : FVec Ideal S .f32) : FVec Ideal S .f32 := addf a b

end Cert.Val

end
-- ==== Proof.Val.Math.lean ====
/- The mathematics both programs compute, over the extended reals: the logarithm of the logistic function, sums of logarithms
   and products of probabilities, and the logarithm of a sum of exponentials with and without its maximum taken out. -/
module

public import Idealize.ShloMosaic.PureOps.Ideal

@[expose] public section

noncomputable section

namespace Cert.Val

open Idealize.ShloMosaic

/-- `exp (-|a|)` as the kernel spells it. -/
def ek (a : EReal) : EReal := Ideal.exp (0 - max a (-a))

/-- The logarithm of the logistic function of `a`, in the kernel's form. -/
def ls (a : EReal) : EReal := min a 0 - Ideal.log1p (ek a)

/-- `exp (-|a|)` is a real number between 0 and 1. -/
theorem ek_real (a : EReal) : ∃ r : ℝ, 0 ≤ r ∧ r ≤ 1 ∧ ek a = r := by
  unfold ek
  induction a using EReal.rec with
  | bot => exact ⟨0, le_refl _, zero_le_one, by simp⟩
  | top => exact ⟨0, le_refl _, zero_le_one, by simp⟩
  | coe x =>
    refine ⟨Real.exp (0 - max x (-x)), (Real.exp_pos _).le, ?_, ?_⟩
    · rw [Real.exp_le_one_iff]
      rcases le_total x 0 with h | h
      · linarith [le_max_right x (-x)]
      · linarith [le_max_left x (-x)]
    · rw [← EReal.coe_neg, ← EReal.coe_strictMono.monotone.map_max, ← EReal.coe_zero, ← EReal.coe_sub, Ideal.exp_coe]

/-- `exp (-|a|)` does not see the sign. -/
theorem ek_neg (a : EReal) : ek (-a) = ek a := by
  unfold ek; rw [neg_neg, max_comm]

/-- `log (1 + exp (-|a|))` is a real number. -/
theorem log1p_coe {r : ℝ} (h : 0 ≤ r) : Ideal.log1p (r : EReal) = (Real.log (1 + r) : ℝ) := by
  unfold Ideal.log1p
  rw [← EReal.coe_one, ← EReal.coe_add, Ideal.log_coe, if_neg (by linarith)]

/-- The exponential of a difference with a real number. -/
theorem exp_sub_coe (x : EReal) (t : ℝ) : Ideal.exp (x - t) = Ideal.exp x * (Real.exp (-t) : ℝ) := by
  induction x using EReal.rec with
  | bot => simp
  | top =>
    rw [EReal.top_sub_coe, Ideal.exp_top, EReal.top_mul_coe_of_pos (Real.exp_pos _)]
  | coe x => rw [← EReal.coe_sub, Ideal.exp_coe, Ideal.exp_coe, ← EReal.coe_mul, ← Real.exp_add, sub_eq_add_neg]

/-- The exponential of the minimum with zero. -/
theorem exp_min (a : EReal) : Ideal.exp (min a 0) = if 0 < a then 1 else ek a := by
  split
  · rename_i h; rw [min_eq_right h.le, ← EReal.coe_zero, Ideal.exp_coe]; simp
  · rename_i h
    rw [not_lt] at h
    rw [min_eq_left h]; unfold ek
    have : a ≤ -a := h.trans (by simpa using EReal.neg_le_neg_iff.2 h)
    rw [max_eq_right this, zero_sub, neg_neg]

/-- One over one plus a real number at least zero. -/
theorem div_one_coe {r : ℝ} (h : 0 ≤ r) : Ideal.div 1 (1 + (r : EReal)) = ((1 + r)⁻¹ : ℝ) := by
  unfold Ideal.div
  rw [← EReal.coe_one, ← EReal.coe_add, if_neg, ← EReal.coe_inv, ← EReal.coe_mul, one_mul]
  rw [← EReal.coe_zero, EReal.coe_eq_coe_iff]; linarith

/-- The logistic function of `a`, in the kernel's form. -/
theorem exp_ls (a : EReal) : Ideal.exp (ls a) = if 0 < a then Ideal.div 1 (1 + ek a) else ek a * Ideal.div 1 (1 + ek a) := by
  obtain ⟨r, h0, h1, hr⟩ := ek_real a
  unfold ls
  rw [hr, log1p_coe h0, exp_sub_coe, exp_min, div_one_coe h0, hr, Real.exp_neg, Real.exp_log (by linarith)]
  split <;> simp

/-- The other probability: the logistic function of `-a`, by the sign of `a`. -/
theorem exp_ls_neg (a : EReal) : Ideal.exp (ls (-a)) = if 0 < a then ek a * Ideal.div 1 (1 + ek a) else Ideal.div 1 (1 + ek a) := by
  rw [exp_ls, ek_neg]
  by_cases h : 0 < a
  · rw [if_pos h, if_neg]
    rw [not_lt, ← EReal.neg_le_neg_iff]; simpa using h.le
  · rw [if_neg h]
    rw [not_lt] at h
    rcases h.eq_or_lt with h | h
    · subst h
      have : ek 0 = 1 := by
        unfold ek
        rw [neg_zero, max_self, sub_zero, ← EReal.coe_zero, Ideal.exp_coe, Real.exp_zero, EReal.coe_one]
      rw [this]; simp
    · rw [if_pos]
      rw [← EReal.neg_lt_neg_iff]; simpa using h

/-- Twice a number is positive exactly where the number is. -/
theorem two_mul_pos (z : EReal) : 0 < ((2 : ℝ) : EReal) * z ↔ 0 < z := by
  induction z using EReal.rec with
  | bot => rw [EReal.coe_mul_bot_of_pos (by norm_num)]
  | top => rw [EReal.coe_mul_top_of_pos (by norm_num)]
  | coe x =>
    rw [← EReal.coe_mul, ← EReal.coe_zero, EReal.coe_lt_coe_iff, EReal.coe_lt_coe_iff]
    constructor <;> intro h <;> linarith

/-- A logarithm of the logistic function is at most zero. -/
theorem ls_le (a : EReal) : ls a ≤ 0 := by
  obtain ⟨r, h0, h1, hr⟩ := ek_real a
  unfold ls
  rw [hr, log1p_coe h0]
  have hl : 0 ≤ Real.log (1 + r) := Real.log_nonneg (by linarith)
  calc min a 0 - (Real.log (1 + r) : ℝ) ≤ 0 - (Real.log (1 + r) : ℝ) := EReal.sub_le_sub (min_le_right _ _) le_rfl
    _ ≤ 0 := by rw [← EReal.coe_zero, ← EReal.coe_sub, EReal.coe_le_coe_iff]; linarith

/-- The logarithm of the logistic function is never `⊤`. -/
theorem ls_ne_top (a : EReal) : ls a ≠ ⊤ := fun h => by
  have := ls_le a; rw [h] at this; simp at this

/-- The reference's form of the logarithm of the logistic function. -/
theorem ls_ref (a : EReal) : -(max (-a) 0 + Ideal.log1p (Ideal.exp (-(max (-a) (-(-a)))))) = ls a := by
  obtain ⟨r, h0, h1, hr⟩ := ek_real a
  have he : Ideal.exp (-(max (-a) (-(-a)))) = r := by
    rw [← hr]; unfold ek; rw [neg_neg, max_comm, zero_sub]
  unfold ls
  rw [he, hr, log1p_coe h0, EReal.neg_add (.inr (EReal.coe_ne_top _)) (.inr (EReal.coe_ne_bot _))]
  congr 1
  rcases le_total a 0 with h | h
  · rw [max_eq_left (by simpa using EReal.neg_le_neg_iff.2 h), min_eq_left h, neg_neg]
  · rw [max_eq_right (by simpa using EReal.neg_le_neg_iff.2 h), min_eq_right h, neg_zero]

end Cert.Val

end
-- ==== Proof.Val.Consts.lean ====
/- The float constants the programs spell, as the extended reals their patterns denote. -/
module

public import Idealize.ShloMosaic.PureOps.Ideal

@[expose] public section

noncomputable section

namespace Cert.Consts

open Idealize.ShloMosaic

/-- The pattern of `2.0`. -/
theorem ofBits_2 : Ideal.ofBits .f32 0x40000000#32 = ((2 : ℝ) : EReal) := by
  simp [Ideal.ofBits, Ideal.ieee, -EReal.coe_mul]; norm_num

/-- The pattern of `17.0`. -/
theorem ofBits_17 : Ideal.ofBits .f32 0x41880000#32 = ((17 : ℝ) : EReal) := by
  simp [Ideal.ofBits, Ideal.ieee, -EReal.coe_mul]; norm_num

/-- The pattern of `128.0`. -/
theorem ofBits_128 : Ideal.ofBits .f32 0x43000000#32 = ((128 : ℝ) : EReal) := by
  simp [Ideal.ofBits, Ideal.ieee, -EReal.coe_mul]; norm_num

/-- The pattern of `2 ^ 24`. -/
theorem ofBits_seed : Ideal.ofBits .f32 0x4B800000#32 = (((2 : ℝ) ^ 24 : ℝ) : EReal) := by
  rw [show ((2 : ℝ) ^ 24) = 16777216 by norm_num]
  simp [Ideal.ofBits, Ideal.ieee, -EReal.coe_mul]; norm_num

/-- The pattern of `2 ^ (-55)`. -/
theorem ofBits_scale : Ideal.ofBits .f32 0x24000000#32 = (((2 : ℝ) ^ 55)⁻¹ : ℝ) := by
  simp [Ideal.ofBits, Ideal.ieee, -EReal.coe_mul]; norm_num

/-- The pattern of `+∞`. -/
theorem ofBits_top : Ideal.ofBits .f32 0x7F800000#32 = ⊤ := by
  simp [Ideal.ofBits, Ideal.ieee]

/-- The pattern of `-∞`. -/
theorem ofBits_bot : Ideal.ofBits .f32 0xFF800000#32 = ⊥ := by
  simp [Ideal.ofBits, Ideal.ieee]

end Cert.Consts

end
-- ==== Proof.Val.Payload.lean ====
/- The kernel's own vectors, named by what they are: the probabilities and their logarithms, the tables, the product. -/
module

public import proofs.«01_k».proof.Proof.Val.Table
public import proofs.«01_k».proof.Proof.Val.Math
public import proofs.«01_k».proof.Proof.Val.Consts
public import proofs.«01_k».proof.Proof.KernelIdealSlow
public import proofs.«01_k».proof.Proof.KernelIdealFast

@[expose] public section

set_option maxRecDepth 16384

noncomputable section

namespace Cert.Val

open Idealize.ShloMosaic Cert.KernelIdeal Cert.KernelIdeal.Gen Cert.KernelIdeal.Body

/-- The table of products of 256 rows. -/
def mulA (o z : FVec Ideal S17x128 .f32) : FVec Ideal S256x128 .f32 :=
  tblA fmul (fmul _ (fmul _ (fmul _ k0_pay65 (low 0#32 (row o 9 slices_S17x128_o9_0_S1x128) (row z 9 slices_S17x128_o9_0_S1x128))) (low 1#32 (row o 8 slices_S17x128_o8_0_S1x128) (row z 8 slices_S17x128_o8_0_S1x128))) (low 2#32 (row o 7 slices_S17x128_o7_0_S1x128) (row z 7 slices_S17x128_o7_0_S1x128))) o z

/-- The table of sums of 256 rows. -/
def addA (o z : FVec Ideal S17x128 .f32) : FVec Ideal S256x128 .f32 :=
  tblA fadd (fadd _ (fadd _ (low 0#32 (row o 9 slices_S17x128_o9_0_S1x128) (row z 9 slices_S17x128_o9_0_S1x128)) (low 1#32 (row o 8 slices_S17x128_o8_0_S1x128) (row z 8 slices_S17x128_o8_0_S1x128))) (low 2#32 (row o 7 slices_S17x128_o7_0_S1x128) (row z 7 slices_S17x128_o7_0_S1x128))) o z

/-- The table of products of 512 rows. -/
def mulB (o z : FVec Ideal S17x128 .f32) : FVec Ideal S512x128 .f32 :=
  tblB fmul (fmul _ (fmul _ (fmul _ k0_pay65 (low 0#32 (row o 16 slices_S17x128_o16_0_S1x128) (row z 16 slices_S17x128_o16_0_S1x128))) (low 1#32 (row o 15 slices_S17x128_o15_0_S1x128) (row z 15 slices_S17x128_o15_0_S1x128))) (low 2#32 (row o 14 slices_S17x128_o14_0_S1x128) (row z 14 slices_S17x128_o14_0_S1x128))) o z

/-- The table of sums of 512 rows. -/
def addB (o z : FVec Ideal S17x128 .f32) : FVec Ideal S512x128 .f32 :=
  tblB fadd (fadd _ (fadd _ (low 0#32 (row o 16 slices_S17x128_o16_0_S1x128) (row z 16 slices_S17x128_o16_0_S1x128)) (low 1#32 (row o 15 slices_S17x128_o15_0_S1x128) (row z 15 slices_S17x128_o15_0_S1x128))) (low 2#32 (row o 14 slices_S17x128_o14_0_S1x128) (row z 14 slices_S17x128_o14_0_S1x128))) o z

/-- The product of the two tables, as the kernel takes it: three pieces of each. -/
def dotY (A : FVec Ideal S256x128 .f32) (B : FVec Ideal S512x128 .f32) : FVec Ideal S256x512 .f32 :=
  k0_pay79 (truncf .bf16 (extf .f32 (truncf .bf16 A) : FVec Ideal S256x128 .f32))
    (truncf .bf16 (extf .f32 (truncf .bf16 (subf A (extf .f32 (truncf .bf16 A)) : FVec Ideal S256x128 .f32)) : FVec Ideal S256x128 .f32))
    (truncf .bf16 (subf (subf A (extf .f32 (truncf .bf16 A))) (extf .f32 (truncf .bf16 (subf A (extf .f32 (truncf .bf16 A)) : FVec Ideal S256x128 .f32))) : FVec Ideal S256x128 .f32)) B

/-- The logarithms of the usages, of the product's scaled entries. -/
def logY (y : FVec Ideal S256x512 .f32) : FVec Ideal S256x512 .f32 :=
  addf (log y) (broadcast S256x512 (Named.named κ "scaled_offset" 0xC1D2B77C#32))

/-- The first vector of probabilities. -/
abbrev vP (z : FVec Ideal S17x128 .f32) : FVec Ideal S17x128 .f32 := k0_pay94 z (k0_pay86 z)
/-- The second vector of probabilities. -/
abbrev vQ (z : FVec Ideal S17x128 .f32) : FVec Ideal S17x128 .f32 := k0_pay95 z (k0_pay86 z)
/-- The first vector of log-probabilities. -/
abbrev vLP (z : FVec Ideal S17x128 .f32) : FVec Ideal S17x128 .f32 := k0_pay97 z
/-- The second vector of log-probabilities. -/
abbrev vLQ (z : FVec Ideal S17x128 .f32) : FVec Ideal S17x128 .f32 := k0_pay98 z

variable (p q : FVec Ideal S17x128 .f32)

/-- The first batch entry's first table of products. -/
theorem mulA0_eq : k0_pay70 p q (k0_pay69 p q k0_pay65 (iota .tc S8x128 32 [0] iota_S8x128_d0_w32) k0_pay66 (row q 9 slices_S17x128_o9_0_S1x128) (shapeCast S1x128 (row p 9 slices_S17x128_o9_0_S1x128) shapeCasts_S1x128_S1x128)) = mulA p q := rfl

/-- The first batch entry's second table of products. -/
theorem mulB0_eq : k0_pay78 p q (iota .tc S8x128 32 [0] iota_S8x128_d0_w32) (k0_pay77 p q k0_pay65) = mulB p q := rfl

/-- The second batch entry's first table of products. -/
theorem mulA1_eq : k0_pay105 p q (k0_pay103 p q) k0_pay104 = mulA p q := rfl

/-- The first batch entry's product, as the six-part product of its tables. -/
theorem dotY0_eq (t : FVec Ideal S64x128 .f32) (B : FVec Ideal S512x128 .f32) :
    k0_pay79 (k0_pay74 p q t) (k0_pay75 p q t) (k0_pay76 p q t) B = dotY (k0_pay70 p q t) B := rfl

/-- The first batch entry's scaled usages. -/
theorem y0_eq : k0_pay79 (k0_pay74 p q (k0_pay69 p q k0_pay65 (iota .tc S8x128 32 [0] iota_S8x128_d0_w32) k0_pay66 (row q 9 slices_S17x128_o9_0_S1x128) (shapeCast S1x128 (row p 9 slices_S17x128_o9_0_S1x128) shapeCasts_S1x128_S1x128))) (k0_pay75 p q (k0_pay69 p q k0_pay65 (iota .tc S8x128 32 [0] iota_S8x128_d0_w32) k0_pay66 (row q 9 slices_S17x128_o9_0_S1x128) (shapeCast S1x128 (row p 9 slices_S17x128_o9_0_S1x128) shapeCasts_S1x128_S1x128))) (k0_pay76 p q (k0_pay69 p q k0_pay65 (iota .tc S8x128 32 [0] iota_S8x128_d0_w32) k0_pay66 (row q 9 slices_S17x128_o9_0_S1x128) (shapeCast S1x128 (row p 9 slices_S17x128_o9_0_S1x128) shapeCasts_S1x128_S1x128))) (k0_pay78 p q (iota .tc S8x128 32 [0] iota_S8x128_d0_w32) (k0_pay77 p q k0_pay65))
    = dotY (mulA p q) (mulB p q) := by
  rw [dotY0_eq, mulA0_eq, mulB0_eq]

/-- The product at the second batch entry, over any second table's pieces. -/
theorem dotY1_eq : k0_pay114 p q (k0_pay109 p q (k0_pay103 p q) k0_pay104) (k0_pay110 p q (k0_pay103 p q) k0_pay104) (k0_pay111 p q (k0_pay103 p q) k0_pay104) (k0_pay112 p q k0_pay102) (k0_pay113 q)
    = dotY (k0_pay105 p q (k0_pay103 p q) k0_pay104) (mulB p q) := rfl

/-- The second batch entry's scaled usages. -/
theorem y1_eq : k0_pay114 p q (k0_pay109 p q (k0_pay103 p q) k0_pay104) (k0_pay110 p q (k0_pay103 p q) k0_pay104) (k0_pay111 p q (k0_pay103 p q) k0_pay104) (k0_pay112 p q k0_pay102) (k0_pay113 q)
    = dotY (mulA p q) (mulB p q) := by
  rw [dotY1_eq, mulA1_eq]

/-- The first batch entry's first table of sums. -/
theorem addA0_eq : k0_pay24 p q (k0_pay22 p q) (k0_pay23 q) = shapeCast S256x128 (addA p q) shapeCasts_S256x128_S256x128 := rfl

/-- The second batch entry's first table of sums. -/
theorem addA1_eq : k0_pay40 p q (iota .tc S8x128 32 [0] iota_S8x128_d0_w32) (k0_pay36 p q) k0_pay37 (k0_pay38 p) (k0_pay39 q)
    = shapeCast S256x128 (addA p q) shapeCasts_S256x128_S256x128 := rfl

/-- The first batch entry's second table of sums, transposed. -/
theorem addB0_eq : k0_pay31 p (k0_pay29 p q (iota .tc S8x128 32 [0] iota_S8x128_d0_w32) (k0_pay25 p q) k0_pay26 (k0_pay27 p) (k0_pay28 q)) (k0_pay30 q)
    = shapeCast S128x512 (transpose S128x512 [1, 0] (addB p q) transposes_S512x128_p1_0_S128x512) shapeCasts_S128x512_S128x512 := rfl

/-- The second batch entry's second table of sums, transposed. -/
theorem addB1_eq : k0_pay43 p q (k0_pay41 p q) (k0_pay42 q)
    = shapeCast S128x512 (transpose S128x512 [1, 0] (addB p q) transposes_S512x128_p1_0_S128x512) shapeCasts_S128x512_S128x512 := rfl

end Cert.Val

end
-- ==== Proof.Val.Sums.lean ====
/- Sums of logarithms and the usages of the codes: the sums the tables hold, the usage of a code, its logarithm, and the ways the
   programs reach them. -/
module

public import proofs.«01_k».proof.Proof.Val.Math
public import proofs.«01_k».proof.Proof.Val.Table

@[expose] public section

noncomputable section

namespace Cert.Val

open Idealize.ShloMosaic

/-- A sum of real numbers, read in the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The exponential of a sum of numbers at most zero. -/
theorem exp_add {x y : EReal} (hx : x ≤ 0) (hy : y ≤ 0) : Ideal.exp (x + y) = Ideal.exp x * Ideal.exp y := by
  induction x using EReal.rec with
  | bot => simp
  | top => simp at hx
  | coe x =>
    induction y using EReal.rec with
    | bot => simp
    | top => simp at hy
    | coe y => rw [← EReal.coe_add, Ideal.exp_coe, Ideal.exp_coe, Ideal.exp_coe, ← EReal.coe_mul, Real.exp_add]

/-- The exponential of a number at most zero is a real number. -/
theorem exp_real {x : EReal} (hx : x ≤ 0) : ∃ r : ℝ, 0 ≤ r ∧ Ideal.exp x = r := by
  induction x using EReal.rec with
  | bot => exact ⟨0, le_rfl, by simp⟩
  | top => simp at hx
  | coe x => exact ⟨Real.exp x, (Real.exp_pos x).le, by simp⟩

section Codes

variable (u v : Fin 17 → Fin 128 → EReal)

/-- The logarithm of the probability of code `j` at position `s`. -/
def code (j : ℕ) (s : Fin 128) : EReal := ∑ k : Fin 17, if j.testBit (16 - k.val) then u k s else v k s

/-- The sum over the positions of the probability of code `j`. -/
def usage (j : ℕ) : EReal := ∑ s : Fin 128, Ideal.exp (code u v j s)

/-- The logarithm of the usage of code `j`, relative to the uniform one. -/
def lu (j : ℕ) : EReal := Ideal.log (usage u v j) + ((10 * Real.log 2 : ℝ) : EReal)

/-- Code `j`'s part of the divergence. -/
def klt (j : ℕ) : EReal := Ideal.exp (lu u v j - ((17 * Real.log 2 : ℝ) : EReal)) * lu u v j

variable {u v} (hu : ∀ k s, u k s ≤ 0) (hv : ∀ k s, v k s ≤ 0)
include hu hv

/-- A table of sums of numbers at most zero is at most zero. -/
theorem tab_le (cs : List (Fin 17)) (m : ℕ) (s : Fin 128) : tab (· + ·) 0 u v cs m s ≤ 0 := by
  induction cs with
  | nil => exact le_rfl
  | cons ch cs ih =>
    unfold tab
    refine add_nonpos ih ?_
    split
    · exact hu _ _
    · exact hv _ _

/-- The table of products is the exponential of the table of sums, times the seed. -/
theorem tab_exp (c : ℝ) (cs : List (Fin 17)) (m : ℕ) (s : Fin 128) :
    tab (· * ·) (c : EReal) (fun k s => Ideal.exp (u k s)) (fun k s => Ideal.exp (v k s)) cs m s
      = (c : EReal) * Ideal.exp (tab (· + ·) 0 u v cs m s) := by
  induction cs with
  | nil => unfold tab; rw [← EReal.coe_zero, Ideal.exp_coe]; simp
  | cons ch cs ih =>
    unfold tab
    rw [ih, exp_add (tab_le hu hv cs m s) (by split; exacts [hu _ _, hv _ _]), mul_assoc]
    split <;> rfl

/-- A code's log-probability is at most zero. -/
theorem code_le (j : ℕ) (s : Fin 128) : code u v j s ≤ 0 := by
  unfold code
  refine Finset.sum_nonpos fun k _ => ?_
  split
  · exact hu _ _
  · exact hv _ _

/-- A usage is a real number at least zero. -/
theorem usage_real (j : ℕ) : ∃ r : ℝ, 0 ≤ r ∧ usage u v j = r := by
  choose r h0 hr using fun s => exp_real (code_le hu hv j s)
  refine ⟨∑ s, r s, Finset.sum_nonneg fun s _ => h0 s, ?_⟩
  unfold usage
  rw [Finset.sum_congr rfl fun s _ => hr s, coe_sum]

omit hu hv in
/-- The two tables' rows of a code add up to the code's logarithm. -/
theorem tab_split (n m l : ℕ) (hm : m < 256) (hl : l < 128) (hn : n < 4) (s : Fin 128) :
    tab (· + ·) 0 u v [2, 3, 4, 5, 6, 7, 8, 9] m s + tab (· + ·) 0 u v [0, 1, 10, 11, 12, 13, 14, 15, 16] (n * 128 + l) s
      = code u v ((n * 256 + m) * 128 + l) s := by
  have e1 : m = ((n * 256 + m) * 128 + l) / 2 ^ 7 % 2 ^ 8 := by omega
  have e2 : l = ((n * 256 + m) * 128 + l) % 2 ^ 7 := by omega
  have e3 : n = ((n * 256 + m) * 128 + l) / 2 ^ 15 := by omega
  have e4 : l = (n * 128 + l) % 2 ^ 7 := by omega
  have e5 : n = (n * 128 + l) / 2 ^ 7 := by omega
  generalize hj : (n * 256 + m) * 128 + l = j at e1 e2 e3
  have bm : ∀ i, i < 8 → m.testBit i = j.testBit (7 + i) := fun i hi => by
    rw [e1, Nat.testBit_mod_two_pow, Nat.testBit_div_two_pow]; simp [hi, Nat.add_comm]
  have bl : ∀ i, i < 7 → (n * 128 + l).testBit i = j.testBit i := fun i hi => by
    have h1 : l.testBit i = (n * 128 + l).testBit i := by
      conv_lhs => rw [e4]
      rw [Nat.testBit_mod_two_pow]; simp [hi]
    have h2 : l.testBit i = j.testBit i := by
      conv_lhs => rw [e2]
      rw [Nat.testBit_mod_two_pow]; simp [hi]
    rw [← h1, h2]
  have bn : ∀ i, (n * 128 + l).testBit (7 + i) = j.testBit (15 + i) := fun i => by
    have h1 : n.testBit i = (n * 128 + l).testBit (7 + i) := by
      conv_lhs => rw [e5]
      rw [Nat.testBit_div_two_pow, Nat.add_comm i 7]
    have h2 : n.testBit i = j.testBit (15 + i) := by
      conv_lhs => rw [e3]
      rw [Nat.testBit_div_two_pow, Nat.add_comm i 15]
    rw [← h1, h2]
  have h17 : ∀ f : Fin 17 → EReal, ∑ k, f k = f 0 + f 1 + f 2 + f 3 + f 4 + f 5 + f 6 + f 7 + f 8 + f 9 + f 10 + f 11 + f 12 + f 13 + f 14 + f 15 + f 16 := fun f => by
    simp only [Fin.sum_univ_castSucc, Fin.sum_univ_zero, zero_add]; rfl
  have bn0 : (n * 128 + l).testBit 7 = j.testBit 15 := bn 0
  have bn1 : (n * 128 + l).testBit 8 = j.testBit 16 := bn 1
  unfold code
  rw [h17]
  simp only [tab, List.length_cons, List.length_nil, zero_add, Nat.reduceAdd]
  have bm0 : m.testBit 0 = j.testBit 7 := bm 0 (by omega)
  have bm1 : m.testBit 1 = j.testBit 8 := bm 1 (by omega)
  have bm2 : m.testBit 2 = j.testBit 9 := bm 2 (by omega)
  have bm3 : m.testBit 3 = j.testBit 10 := bm 3 (by omega)
  have bm4 : m.testBit 4 = j.testBit 11 := bm 4 (by omega)
  have bm5 : m.testBit 5 = j.testBit 12 := bm 5 (by omega)
  have bm6 : m.testBit 6 = j.testBit 13 := bm 6 (by omega)
  have bm7 : m.testBit 7 = j.testBit 14 := bm 7 (by omega)
  have bl0 : (n * 128 + l).testBit 0 = j.testBit 0 := bl 0 (by omega)
  have bl1 : (n * 128 + l).testBit 1 = j.testBit 1 := bl 1 (by omega)
  have bl2 : (n * 128 + l).testBit 2 = j.testBit 2 := bl 2 (by omega)
  have bl3 : (n * 128 + l).testBit 3 = j.testBit 3 := bl 3 (by omega)
  have bl4 : (n * 128 + l).testBit 4 = j.testBit 4 := bl 4 (by omega)
  have bl5 : (n * 128 + l).testBit 5 = j.testBit 5 := bl 5 (by omega)
  have bl6 : (n * 128 + l).testBit 6 = j.testBit 6 := bl 6 (by omega)
  simp only [bm0, bm1, bm2, bm3, bm4, bm5, bm6, bm7, bl0, bl1, bl2, bl3, bl4, bl5, bl6, bn0, bn1]
  show _ = (if j.testBit 16 then u 0 s else v 0 s) + (if j.testBit 15 then u 1 s else v 1 s) + (if j.testBit 14 then u 2 s else v 2 s) + (if j.testBit 13 then u 3 s else v 3 s) + (if j.testBit 12 then u 4 s else v 4 s) + (if j.testBit 11 then u 5 s else v 5 s) + (if j.testBit 10 then u 6 s else v 6 s) + (if j.testBit 9 then u 7 s else v 7 s) + (if j.testBit 8 then u 8 s else v 8 s) + (if j.testBit 7 then u 9 s else v 9 s) + (if j.testBit 6 then u 10 s else v 10 s) + (if j.testBit 5 then u 11 s else v 11 s) + (if j.testBit 4 then u 12 s else v 12 s) + (if j.testBit 3 then u 13 s else v 13 s) + (if j.testBit 2 then u 14 s else v 14 s) + (if j.testBit 1 then u 15 s else v 15 s) + (if j.testBit 0 then u 16 s else v 16 s)
  ac_rfl

/-- The scaled product's logarithm, with the scale taken off, is the usage's. -/
theorem lu_scaled (j : ℕ) : Ideal.log ((2 ^ 48 : ℝ) * usage u v j) + (((-38) * Real.log 2 : ℝ) : EReal) = lu u v j := by
  obtain ⟨r, h0, hr⟩ := usage_real hu hv j
  unfold lu
  rw [hr, ← EReal.coe_mul, Ideal.log_coe, Ideal.log_coe]
  rcases h0.eq_or_lt with h | h
  · subst h; simp
  · rw [if_neg (not_le.2 (by positivity)), if_neg (not_le.2 (by positivity)), Real.log_mul (by positivity) (by positivity), Real.log_pow,
      ← EReal.coe_add, ← EReal.coe_add]
    congr 1; push_cast; ring

/-- Code `j`'s part of the divergence is a real number, and `2 ^ 55` times it is the scaled usage times its logarithm. -/
theorem klt_real (j : ℕ) : ∃ w : ℝ, klt u v j = w ∧ ((2 ^ 48 : ℝ) * usage u v j) * lu u v j = ((w * 2 ^ 55 : ℝ) : EReal) := by
  obtain ⟨r, h0, hr⟩ := usage_real hu hv j
  unfold klt lu
  rw [hr, ← EReal.coe_mul, Ideal.log_coe]
  rcases h0.eq_or_lt with h | h
  · subst h; exact ⟨0, by simp, by simp⟩
  · rw [if_neg (not_le.2 (by positivity))]
    refine ⟨r * (2 ^ 7)⁻¹ * (Real.log r + 10 * Real.log 2), ?_, ?_⟩
    · rw [← EReal.coe_add, ← EReal.coe_sub, Ideal.exp_coe, ← EReal.coe_mul]
      congr 2
      rw [show Real.log r + 10 * Real.log 2 - 17 * Real.log 2 = Real.log r - Real.log (2 ^ 7) by
        rw [Real.log_pow]; push_cast; ring, Real.exp_sub, Real.exp_log h, Real.exp_log (by positivity), div_eq_mul_inv]
    · rw [← EReal.coe_add, ← EReal.coe_mul]
      congr 1; ring

end Codes

/-- The logarithm of a sum of exponentials, with a real number taken out. -/
theorem lse_coe {ι : Type} [Fintype ι] (s : ι → EReal) (hs : ∀ k, s k ≤ 0) (t : ℝ) :
    Ideal.log (∑ k, Ideal.exp (s k - t)) + (t : EReal) = Ideal.log (∑ k, Ideal.exp (s k)) := by
  choose r h0 hr using fun k => exp_real (hs k)
  have e1 : ∑ k, Ideal.exp (s k - t) = (((∑ k, r k) * Real.exp (-t) : ℝ) : EReal) := by
    rw [Finset.sum_mul, coe_sum]
    exact Finset.sum_congr rfl fun k _ => by rw [exp_sub_coe, hr, EReal.coe_mul]
  have e2 : ∑ k, Ideal.exp (s k) = ((∑ k, r k : ℝ) : EReal) := by
    rw [coe_sum]; exact Finset.sum_congr rfl fun k _ => hr k
  rw [e1, e2, Ideal.log_coe, Ideal.log_coe]
  rcases (Finset.sum_nonneg fun k (_ : k ∈ Finset.univ) => h0 k).eq_or_lt with h | h
  · rw [← h]; simp
  · rw [if_neg (by have := Real.exp_pos (-t); have := mul_pos h this; linarith), if_neg (by linarith),
      Real.log_mul h.ne' (Real.exp_pos _).ne', Real.log_exp, ← EReal.coe_add]
    congr 1; ring

/-- The maximum of numbers at most zero is at most zero; where it is `⊥`, all of them are. -/
theorem fold_max {ι : Type} [Fintype ι] (s : ι → EReal) (hs : ∀ k, s k ≤ 0) :
    (Finset.univ.fold max ⊥ s ≤ 0) ∧ (Finset.univ.fold max ⊥ s = ⊥ → ∀ k, s k = ⊥) := by
  constructor
  · rw [Finset.fold_max_le]; exact ⟨bot_le, fun k _ => hs k⟩
  · intro h k
    have : s k ≤ Finset.univ.fold max ⊥ s := Finset.le_fold_max _ |>.2 (.inr ⟨k, Finset.mem_univ k, le_rfl⟩)
    rw [h] at this; exact le_bot_iff.1 this

/-- The logarithm of a sum of exponentials with its maximum taken out, whatever the maximum. -/
theorem lse_max {ι : Type} [Fintype ι] (s : ι → EReal) (hs : ∀ k, s k ≤ 0) :
    Ideal.log (∑ k, Ideal.exp (s k - Finset.univ.fold max ⊥ s)) + Finset.univ.fold max ⊥ s = Ideal.log (∑ k, Ideal.exp (s k)) := by
  obtain ⟨h1, h2⟩ := fold_max s hs
  generalize Finset.univ.fold max ⊥ s = t at h1 h2
  induction t using EReal.rec with
  | bot =>
    have h0 : Ideal.log 0 = ⊥ := by rw [← EReal.coe_zero, Ideal.log_coe, if_pos le_rfl]
    simp [h2 rfl, h0]
  | top => simp at h1
  | coe t => exact lse_coe s hs t

/-- The same with a maximum that is not finite replaced by zero. -/
theorem lse_guard {ι : Type} [Fintype ι] (s : ι → EReal) (hs : ∀ k, s k ≤ 0) (t : EReal) (ht : t = 0 ∨ t = Finset.univ.fold max ⊥ s) :
    Ideal.log (∑ k, Ideal.exp (s k - t)) + t = Ideal.log (∑ k, Ideal.exp (s k)) := by
  rcases ht with rfl | rfl
  · simpa using lse_coe s hs 0
  · exact lse_max s hs

end Cert.Val

end
-- ==== Proof.Val.Fast.lean ====
/- What the kernel's vectors hold, entry by entry: the logarithms of the probabilities, the probabilities, the tables and their
   product. -/
module

public import proofs.«01_k».proof.Proof.Val.Payload
public import proofs.«01_k».proof.Proof.Val.Sums

@[expose] public section

set_option maxRecDepth 16384

noncomputable section

namespace Cert.Val

open Idealize.ShloMosaic Cert.KernelIdeal Cert.KernelIdeal.Gen Cert.KernelIdeal.Body

/-- The logarithms of the probabilities of a channel's sign being positive, of a vector of inputs. -/
def U (z : FVec Ideal S17x128 .f32) (k : Fin 17) (s : Fin 128) : EReal := ls (((2 : ℝ) : EReal) * z (ix2 k s))

/-- The logarithms of the probabilities of a channel's sign being negative, of a vector of inputs. -/
def V (z : FVec Ideal S17x128 .f32) (k : Fin 17) (s : Fin 128) : EReal := ls (-(((2 : ℝ) : EReal) * z (ix2 k s)))

/-- A bit's first log-probability is at most zero. -/
theorem U_le (z : FVec Ideal S17x128 .f32) (k : Fin 17) (s : Fin 128) : U z k s ≤ 0 := ls_le _

/-- A bit's second log-probability is at most zero. -/
theorem V_le (z : FVec Ideal S17x128 .f32) (k : Fin 17) (s : Fin 128) : V z k s ≤ 0 := ls_le _

/-- The kernel's first vector of log-probabilities, at an index. -/
theorem vLP_apply (z : FVec Ideal S17x128 .f32) (k : Fin 17) (s : Fin 128) : vLP z (ix2 k s) = U z k s := by
  unfold U ls ek
  pointwise [vLP, k0_pay97, k0_pay96, k0_pay91, k0_pay90]
  rw [Consts.ofBits_2]
  rfl

/-- The kernel's second vector of log-probabilities, at an index. -/
theorem vLQ_apply (z : FVec Ideal S17x128 .f32) (k : Fin 17) (s : Fin 128) : vLQ z (ix2 k s) = V z k s := by
  unfold V ls
  rw [ek_neg]
  unfold ek
  pointwise [vLQ, k0_pay98, k0_pay96, k0_pay91, k0_pay90]
  rw [Consts.ofBits_2, zero_sub]
  rfl

/-- The kernel's first vector of probabilities is the exponential of the log-probabilities. -/
theorem vP_apply (z : FVec Ideal S17x128 .f32) (k : Fin 17) (s : Fin 128) : vP z (ix2 k s) = Ideal.exp (U z k s) := by
  unfold U
  rw [exp_ls]
  unfold ek
  pointwise [vP, k0_pay94, k0_pay93, k0_pay92, k0_pay91, k0_pay90, k0_pay86]
  simp only [Consts.ofBits_2, two_mul_pos]
  rfl

/-- The kernel's second vector of probabilities is the exponential of the log-probabilities. -/
theorem vQ_apply (z : FVec Ideal S17x128 .f32) (k : Fin 17) (s : Fin 128) : vQ z (ix2 k s) = Ideal.exp (V z k s) := by
  unfold V
  rw [exp_ls_neg]
  unfold ek
  pointwise [vQ, k0_pay95, k0_pay93, k0_pay92, k0_pay91, k0_pay90, k0_pay86]
  simp only [Consts.ofBits_2, two_mul_pos]
  rfl

/-- The six-part product of two split tables is the plain product, where the tables hold real numbers. -/
theorem dotY_apply (A : FVec Ideal S256x128 .f32) (B : FVec Ideal S512x128 .f32) (hA : ∀ m s, ∃ r : ℝ, A (ix2 m s) = r)
    (hB : ∀ m s, ∃ r : ℝ, B (ix2 m s) = r) (m : Fin 256) (n : Fin 512) :
    dotY A B (ix2 m n) = ∑ s : Fin 128, A (ix2 m s) * B (ix2 n s) := by
  pointwise [dotY, k0_pay79]
  have hA' : ∀ (m : Fin 256) (s : Fin 128), A (ix2 m s) - A (ix2 m s) = 0 := fun m s => by
    obtain ⟨r, hr⟩ := hA m s; rw [hr, ← EReal.coe_sub, sub_self, EReal.coe_zero]
  have hB' : ∀ (m : Fin 512) (s : Fin 128), B (ix2 m s) - B (ix2 m s) = 0 := fun m s => by
    obtain ⟨r, hr⟩ := hB m s; rw [hr, ← EReal.coe_sub, sub_self, EReal.coe_zero]
  simp only [hA', hB', sub_zero]
  trans ∑ x : Fin (128 + 640), if h : x.val < 128 then A (ix2 m ⟨x.val, h⟩) * B (ix2 n ⟨x.val, h⟩) else 0
  · refine Finset.sum_congr rfl fun x _ => ?_
    split_ifs <;> simp
  · rw [Fin.sum_univ_add]
    simp

/-- The tables of products, as tables of the probabilities. -/
theorem mulA_apply (z : FVec Ideal S17x128 .f32) (m : Fin 256) (s : Fin 128) :
    mulA (vP z) (vQ z) (ix2 m s) = tab (· * ·) ((2 ^ 24 : ℝ) : EReal) (fun k s => Ideal.exp (U z k s)) (fun k s => Ideal.exp (V z k s))
      [2, 3, 4, 5, 6, 7, 8, 9] m.val s := by
  refine tblA_apply fmul (· * ·) (fun S t w i => rfl) _ _ _ _ _ _ (vP_apply z) (vQ_apply z) (fun m s => ?_) m s
  simp only [tab, List.length_cons, List.length_nil, zero_add, Nat.reduceAdd]
  show (k0_pay65 (ix2 m s) * low 0#32 _ _ (ix2 m s)) * low 1#32 _ _ (ix2 m s) * low 2#32 _ _ (ix2 m s) = _
  rw [show (0#32) = BitVec.ofNat 32 0 from rfl, show (1#32) = BitVec.ofNat 32 1 from rfl, show (2#32) = BitVec.ofNat 32 2 from rfl,
    low_apply 0 (by omega), low_apply 1 (by omega), low_apply 2 (by omega)]
  have e : (k0_pay65 : FVec Ideal S8x128 .f32) (ix2 m s) = ((2 ^ 24 : ℝ) : EReal) := Consts.ofBits_seed
  have r (ch : Fin 17) (h) : row (vP z) ch.val h (ix2 0 s) = Ideal.exp (U z ch s) := by rw [row_apply, vP_apply]
  have r' (ch : Fin 17) (h) : row (vQ z) ch.val h (ix2 0 s) = Ideal.exp (V z ch s) := by rw [row_apply, vQ_apply]
  rw [e]
  erw [r 9, r' 9, r 8, r' 8, r 7, r' 7]

/-- The second table of products, as a table of the probabilities. -/
theorem mulB_apply (z : FVec Ideal S17x128 .f32) (m : Fin 512) (s : Fin 128) :
    mulB (vP z) (vQ z) (ix2 m s) = tab (· * ·) ((2 ^ 24 : ℝ) : EReal) (fun k s => Ideal.exp (U z k s)) (fun k s => Ideal.exp (V z k s))
      [0, 1, 10, 11, 12, 13, 14, 15, 16] m.val s := by
  refine tblB_apply fmul (· * ·) (fun S t w i => rfl) _ _ _ _ _ _ (vP_apply z) (vQ_apply z) (fun m s => ?_) m s
  simp only [tab, List.length_cons, List.length_nil, zero_add, Nat.reduceAdd]
  show (k0_pay65 (ix2 m s) * low 0#32 _ _ (ix2 m s)) * low 1#32 _ _ (ix2 m s) * low 2#32 _ _ (ix2 m s) = _
  rw [show (0#32) = BitVec.ofNat 32 0 from rfl, show (1#32) = BitVec.ofNat 32 1 from rfl, show (2#32) = BitVec.ofNat 32 2 from rfl,
    low_apply 0 (by omega), low_apply 1 (by omega), low_apply 2 (by omega)]
  have e : (k0_pay65 : FVec Ideal S8x128 .f32) (ix2 m s) = ((2 ^ 24 : ℝ) : EReal) := Consts.ofBits_seed
  have r (ch : Fin 17) (h) : row (vP z) ch.val h (ix2 0 s) = Ideal.exp (U z ch s) := by rw [row_apply, vP_apply]
  have r' (ch : Fin 17) (h) : row (vQ z) ch.val h (ix2 0 s) = Ideal.exp (V z ch s) := by rw [row_apply, vQ_apply]
  rw [e]
  erw [r 16, r' 16, r 15, r' 15, r 14, r' 14]

/-- The tables of sums, as tables of the logarithms. -/
theorem addA_apply (z : FVec Ideal S17x128 .f32) (m : Fin 256) (s : Fin 128) :
    addA (vLP z) (vLQ z) (ix2 m s) = tab (· + ·) 0 (U z) (V z) [2, 3, 4, 5, 6, 7, 8, 9] m.val s := by
  refine tblA_apply fadd (· + ·) (fun S t w i => rfl) _ _ _ _ _ _ (vLP_apply z) (vLQ_apply z) (fun m s => ?_) m s
  simp only [tab, List.length_cons, List.length_nil, zero_add, Nat.reduceAdd]
  show (low 0#32 _ _ (ix2 m s) + low 1#32 _ _ (ix2 m s)) + low 2#32 _ _ (ix2 m s) = _
  rw [show (0#32) = BitVec.ofNat 32 0 from rfl, show (1#32) = BitVec.ofNat 32 1 from rfl, show (2#32) = BitVec.ofNat 32 2 from rfl,
    low_apply 0 (by omega), low_apply 1 (by omega), low_apply 2 (by omega)]
  have r (ch : Fin 17) (h) : row (vLP z) ch.val h (ix2 0 s) = U z ch s := by rw [row_apply, vLP_apply]
  have r' (ch : Fin 17) (h) : row (vLQ z) ch.val h (ix2 0 s) = V z ch s := by rw [row_apply, vLQ_apply]
  erw [r 9, r' 9, r 8, r' 8, r 7, r' 7]

/-- The second table of sums, as a table of the log-probabilities. -/
theorem addB_apply (z : FVec Ideal S17x128 .f32) (m : Fin 512) (s : Fin 128) :
    addB (vLP z) (vLQ z) (ix2 m s) = tab (· + ·) 0 (U z) (V z) [0, 1, 10, 11, 12, 13, 14, 15, 16] m.val s := by
  refine tblB_apply fadd (· + ·) (fun S t w i => rfl) _ _ _ _ _ _ (vLP_apply z) (vLQ_apply z) (fun m s => ?_) m s
  simp only [tab, List.length_cons, List.length_nil, zero_add, Nat.reduceAdd]
  show (low 0#32 _ _ (ix2 m s) + low 1#32 _ _ (ix2 m s)) + low 2#32 _ _ (ix2 m s) = _
  rw [show (0#32) = BitVec.ofNat 32 0 from rfl, show (1#32) = BitVec.ofNat 32 1 from rfl, show (2#32) = BitVec.ofNat 32 2 from rfl,
    low_apply 0 (by omega), low_apply 1 (by omega), low_apply 2 (by omega)]
  have r (ch : Fin 17) (h) : row (vLP z) ch.val h (ix2 0 s) = U z ch s := by rw [row_apply, vLP_apply]
  have r' (ch : Fin 17) (h) : row (vLQ z) ch.val h (ix2 0 s) = V z ch s := by rw [row_apply, vLQ_apply]
  erw [r 16, r' 16, r 15, r' 15, r 14, r' 14]

/-- The scaled product is the scaled usage. -/
theorem y_apply (z : FVec Ideal S17x128 .f32) (m : Fin 256) (n : Fin 4) (l : Fin 128) (i : Fin 512) (hi : i.val = n.val * 128 + l.val) :
    dotY (mulA (vP z) (vQ z)) (mulB (vP z) (vQ z)) (ix2 m i)
      = ((2 ^ 48 : ℝ) : EReal) * usage (U z) (V z) ((n.val * 256 + m.val) * 128 + l.val) := by
  have hA := fun cs (m : ℕ) s => exp_real (tab_le (U_le z) (V_le z) cs m s)
  choose r h0 hr using hA
  have eA : ∀ (m : Fin 256) (s : Fin 128), mulA (vP z) (vQ z) (ix2 m s) = ((2 ^ 24 * r [2, 3, 4, 5, 6, 7, 8, 9] m.val s : ℝ) : EReal) := fun m s => by
    rw [mulA_apply, tab_exp (U_le z) (V_le z), hr, EReal.coe_mul]
  have eB : ∀ (m : Fin 512) (s : Fin 128), mulB (vP z) (vQ z) (ix2 m s) = ((2 ^ 24 * r [0, 1, 10, 11, 12, 13, 14, 15, 16] m.val s : ℝ) : EReal) := fun m s => by
    rw [mulB_apply, tab_exp (U_le z) (V_le z), hr, EReal.coe_mul]
  rw [dotY_apply _ _ (fun m s => ⟨_, eA m s⟩) (fun m s => ⟨_, eB m s⟩)]
  have e : usage (U z) (V z) ((n.val * 256 + m.val) * 128 + l.val)
      = ((∑ s, r [2, 3, 4, 5, 6, 7, 8, 9] m.val s * r [0, 1, 10, 11, 12, 13, 14, 15, 16] i.val s : ℝ) : EReal) := by
    unfold usage
    rw [coe_sum]
    refine Finset.sum_congr rfl fun s _ => ?_
    rw [← tab_split n.val m.val l.val m.isLt l.isLt n.isLt, exp_add (tab_le (U_le z) (V_le z) _ _ _) (tab_le (U_le z) (V_le z) _ _ _), ← hi, hr, hr, EReal.coe_mul]
  rw [e, ← EReal.coe_mul, Finset.mul_sum, coe_sum]
  refine Finset.sum_congr rfl fun s _ => ?_
  rw [eA, eB, ← EReal.coe_mul]
  congr 1; ring

/-- The logarithm of the scaled product, shifted, is the usage's logarithm. -/
theorem logY_apply (z : FVec Ideal S17x128 .f32) (m : Fin 256) (n : Fin 4) (l : Fin 128) (i : Fin 512) (hi : i.val = n.val * 128 + l.val) :
    logY (dotY (mulA (vP z) (vQ z)) (mulB (vP z) (vQ z))) (ix2 m i) = lu (U z) (V z) ((n.val * 256 + m.val) * 128 + l.val) := by
  rw [← lu_scaled (U_le z) (V_le z), ← y_apply z m n l i hi]
  have e : (Named.named κ "scaled_offset" 0xC1D2B77C#32 : Ideal .f32) = (((-38) * Real.log 2 : ℝ) : EReal) :=
    IdealRules.named_const.ideal_named_scalar _ _ _ _ rfl
  rw [← e]; rfl

end Cert.Val

end
-- ==== Proof.Val.Small.lean ====
/- The three small results of a batch entry: the code's index, the entropy of the signs, the distance to the code. -/
module

public import proofs.«01_k».proof.Proof.Val.Fast

@[expose] public section

set_option maxRecDepth 16384

noncomputable section

namespace Cert.Val

open Idealize.ShloMosaic Cert.KernelIdeal Cert.KernelIdeal.Gen Cert.KernelIdeal.Body

/-- The first batch entry's stores are the second's, at its own input. -/
theorem pay52_eq (x : FVec Ideal S17x2x128 .bf16) : k0_pay52 (F := Ideal) x = k0_pay88 (k0_pay86 (F := Ideal) (k0_pay49 (F := Ideal) x)) k0_pay87 0#32 := rfl

/-- The first batch entry's commitment loss is the same function as the second's. -/
theorem pay53_eq (x : FVec Ideal S17x2x128 .bf16) : k0_pay53 (F := Ideal) x = k0_pay89 (k0_pay49 (F := Ideal) x) (k0_pay86 (F := Ideal) (k0_pay49 (F := Ideal) x)) := rfl

/-- The first batch entry's entropy is the same function as the second's. -/
theorem pay63_eq (x : FVec Ideal S17x2x128 .bf16) : k0_pay63 (F := Ideal) (k0_pay51 (F := Ideal) x) (k0_pay54 (F := Ideal) x) (k0_pay55 (F := Ideal) x)
    = k0_pay100 (k0_pay99 (F := Ideal) (k0_pay49 (F := Ideal) x) (k0_pay86 (F := Ideal) (k0_pay49 (F := Ideal) x))) := rfl

/-- The entropy of a position's signs. -/
def ent (z : FVec Ideal S17x128 .f32) (s : Fin 128) : EReal :=
  0 - ∑ k : Fin 17, (Ideal.exp (U z k s) * U z k s + Ideal.exp (V z k s) * V z k s)

/-- The kernel's entropy of a sample. -/
theorem ent_apply (z : FVec Ideal S17x128 .f32) (s : Fin 128) :
    k0_pay100 (k0_pay99 (F := Ideal) z (k0_pay86 (F := Ideal) z)) (ix2 0 s) = ent z s := by
  have e : ∀ k : Fin 17, addf (mulf (vP z) (vLP z)) (mulf (vQ z) (vLQ z)) (ix2 k s)
      = Ideal.exp (U z k s) * U z k s + Ideal.exp (V z k s) * V z k s := fun k => by
    show vP z (ix2 k s) * vLP z (ix2 k s) + vQ z (ix2 k s) * vLQ z (ix2 k s) = _
    rw [vP_apply, vLP_apply, vQ_apply, vLQ_apply]
  have e2 : k0_pay100 (k0_pay99 (F := Ideal) z (k0_pay86 (F := Ideal) z)) (ix2 0 s)
      = Ideal.ofBits FTy.f32 0x00000000#32 - ∑ k : Fin 17, addf (mulf (vP z) (vLP z)) (mulf (vQ z) (vLQ z)) (ix2 k s) := by
    generalize hw : addf (mulf (vP z) (vLP z)) (mulf (vQ z) (vLQ z)) = w
    rw [show k0_pay99 (F := Ideal) z (k0_pay86 (F := Ideal) z) = multiReduction .add [0] S128 w 0x00000000#32 reduces_S17x128_S128 (.inl rfl) rfl from hw ▸ rfl]
    pointwise [k0_pay100]
  rw [e2]
  simp only [e]
  simp [ent]

/-- The mean squared distance of a position to its code's signs. -/
def com (z : FVec Ideal S17x128 .f32) (s : Fin 128) : EReal :=
  Ideal.div (∑ k : Fin 17, (z (ix2 k s) - if 0 < z (ix2 k s) then 1 else Ideal.ofBits .f32 0xBF800000#32)
    * (z (ix2 k s) - if 0 < z (ix2 k s) then 1 else Ideal.ofBits .f32 0xBF800000#32)) (Ideal.ofBits .f32 0x41880000#32)

/-- The kernel's commitment loss of a sample. -/
theorem com_apply (z : FVec Ideal S17x128 .f32) (s : Fin 128) :
    k0_pay89 z (k0_pay86 (F := Ideal) z) (ix2 0 s) = com z s := by
  pointwise [k0_pay89, k0_pay86]
  rfl

/-- The index of a position's code: the first channel's sign is its highest bit. -/
def idx (z : FVec Ideal S17x128 .f32) (s : Fin 128) : BitVec 32 :=
  Finset.univ.fold IntOp.addi 0#32 fun k : Fin 17 =>
    if 0 < z (ix2 k s) then IntOp.shli .vector 1#32 (IntOp.subi 16#32 (BitVec.ofNat 32 k.val)) else 0#32

/-- The kernel's code index of a sample. -/
theorem idx_apply (z : FVec Ideal S17x128 .f32) (s : Fin 128) :
    k0_pay88 (k0_pay86 (F := Ideal) z) k0_pay87 0#32 (ix2 0 s) = idx z s := by
  pointwise [k0_pay88, k0_pay86, k0_pay87]
  rfl

end Cert.Val

end
-- ==== Proof.Val.Kl.lean ====
/- The divergence on the fast path: the sum over the whole product. -/
module

public import proofs.«01_k».proof.Proof.Val.Fast

@[expose] public section

set_option maxRecDepth 16384

noncomputable section

namespace Cert.Val

open Idealize.ShloMosaic Cert.KernelIdeal Cert.KernelIdeal.Gen Cert.KernelIdeal.Body

/-- The sum of all entries of a vector of 256 rows of 512, as the kernel takes it. -/
def sumAll (w : FVec Ideal S256x512 .f32) : Ideal .f32 :=
  extractAt ![0, 0, 0] (shapeCast S1x1x1 (multiReduction .add [1, 2] S1 (shapeCast S1x256x512 w shapeCasts_S256x512_S1x256x512) 0x00000000#32 reduces_S1x256x512_S1 (.inl rfl) rfl) shapeCasts_S1_S1x1x1) inpos_S1x1x1_p0_0_0

/-- The sum over a whole block is the double sum. -/
theorem sumAll_eq (w : FVec Ideal S256x512 .f32) : sumAll w = ∑ m : Fin 256, ∑ i : Fin 512, w (ix2 m i) := by
  pointwise [sumAll]

/-- The first batch entry's divergence is the sum of usage times logarithm. -/
theorem pay81_eq (a b c : FVec Ideal S256x128 .bf16) (B : FVec Ideal S512x128 .f32) :
    k0_pay81 a b c B = Scalar.mulf (sumAll (mulf (k0_pay79 a b c B) (logY (k0_pay79 a b c B)))) (Scalar.ofBits .f32 0x24000000#32) := rfl

/-- The first batch entry's logarithms are those of the product. -/
theorem pay80_eq (a b c : FVec Ideal S256x128 .bf16) (B : FVec Ideal S512x128 .f32) :
    k0_pay80 a b c B = logY (k0_pay79 a b c B) := rfl

variable (p q : FVec Ideal S17x128 .f32) (a b c : FVec Ideal S256x128 .bf16) (d : FVec Ideal S16x128 .f32) (e : FVec Ideal S1x128 .f32)

/-- The second batch entry's divergence is the sum of usage times logarithm. -/
theorem pay116_eq : k0_pay116 p q a b c d e = sumAll (mulf (k0_pay114 p q a b c d e) (logY (k0_pay114 p q a b c d e))) := rfl

/-- The second batch entry's logarithms are those of the product. -/
theorem pay115_eq : k0_pay115 p q a b c d e = logY (k0_pay114 p q a b c d e) := rfl

/-- The codes, counted by block, row and lane. -/
theorem sum_codes (f : ℕ → EReal) :
    ∑ j : Fin 131072, f j.val = ∑ m : Fin 256, ∑ n : Fin 4, ∑ l : Fin 128, f ((n.val * 256 + m.val) * 128 + l.val) := by
  have e₁ : ∀ g : ℕ → EReal, ∑ j : Fin 131072, g j.val = ∑ r : Fin 1024, ∑ l : Fin 128, g (r.val * 128 + l.val) := by
    intro g
    rw [← Finset.sum_product', ← (finProdFinEquiv (m := 1024) (n := 128)).sum_comp (fun j : Fin 131072 => g j.val)]
    exact Finset.sum_congr rfl fun x _ => congrArg g (by show x.2.val + 128 * x.1.val = _; ring)
  have e₂ : ∀ g : ℕ → EReal, ∑ r : Fin 1024, g r.val = ∑ n : Fin 4, ∑ m : Fin 256, g (n.val * 256 + m.val) := by
    intro g
    rw [← Finset.sum_product', ← (finProdFinEquiv (m := 4) (n := 256)).sum_comp (fun j : Fin 1024 => g j.val)]
    exact Finset.sum_congr rfl fun x _ => congrArg g (by show x.2.val + 256 * x.1.val = _; ring)
  rw [e₁, e₂ (fun r => ∑ l : Fin 128, f (r * 128 + l.val)), Finset.sum_comm]

/-- A sum over 512 columns, block of 128 by block. -/
theorem sum_cols (g : Fin 512 → EReal) : ∑ i, g i = ∑ n : Fin 4, ∑ l : Fin 128, g ⟨n.val * 128 + l.val, by omega⟩ := by
  rw [← Finset.sum_product', ← (finProdFinEquiv (m := 4) (n := 128)).sum_comp g]
  exact Finset.sum_congr rfl fun x _ => congrArg g (Fin.ext (by show x.2.val + 128 * x.1.val = x.1.val * 128 + x.2.val; ring))

/-- The scaled sum over the product is the divergence. -/
theorem kl_fast (z : FVec Ideal S17x128 .f32) (y : FVec Ideal S256x512 .f32) (hy : y = dotY (mulA (vP z) (vQ z)) (mulB (vP z) (vQ z))) :
    Scalar.mulf (sumAll (mulf y (logY y))) (Scalar.ofBits .f32 0x24000000#32 : Ideal .f32)
      = ∑ j : Fin 131072, klt (U z) (V z) j.val := by
  subst hy
  choose w hw hw' using fun j => klt_real (u := U z) (v := V z) (U_le z) (V_le z) j
  have e : ∀ (m : Fin 256) (n : Fin 4) (l : Fin 128) (h : n.val * 128 + l.val < 512),
      mulf (dotY (mulA (vP z) (vQ z)) (mulB (vP z) (vQ z))) (logY (dotY (mulA (vP z) (vQ z)) (mulB (vP z) (vQ z)))) (ix2 m ⟨n.val * 128 + l.val, h⟩)
        = ((w ((n.val * 256 + m.val) * 128 + l.val) * 2 ^ 55 : ℝ) : EReal) := by
    intro m n l h
    show dotY (mulA (vP z) (vQ z)) (mulB (vP z) (vQ z)) (ix2 m ⟨n.val * 128 + l.val, h⟩) * logY (dotY (mulA (vP z) (vQ z)) (mulB (vP z) (vQ z))) (ix2 m ⟨n.val * 128 + l.val, h⟩) = _
    rw [logY_apply z m n l _ rfl, y_apply z m n l _ rfl, hw']
  rw [sumAll_eq]
  simp only [sum_cols, e]
  rw [show (∑ m : Fin 256, ∑ n : Fin 4, ∑ l : Fin 128, ((w ((n.val * 256 + m.val) * 128 + l.val) * 2 ^ 55 : ℝ) : EReal))
    = ∑ j : Fin 131072, ((w j.val * 2 ^ 55 : ℝ) : EReal) from (sum_codes fun j => ((w j * 2 ^ 55 : ℝ) : EReal)).symm,
    ← coe_sum, ← Finset.sum_mul]
  show ((_ : ℝ) : EReal) * Ideal.ofBits FTy.f32 0x24000000#32 = _
  rw [Consts.ofBits_scale, ← EReal.coe_mul, mul_assoc, mul_inv_cancel₀ (by positivity), mul_one, coe_sum]
  exact Finset.sum_congr rfl fun j _ => (hw j.val).symm

end Cert.Val

end
-- ==== Proof.Val.Trip.lean ====
/- One step of the slow path, on vectors: a row of the one table and a block of the other give the logarithms of 128 usages, and
their part of the divergence. -/
module

public import proofs.«01_k».proof.Proof.Val.Kl

@[expose] public section

set_option maxRecDepth 16384

noncomputable section

namespace Cert.Val

open Idealize.ShloMosaic Cert.KernelIdeal Cert.KernelIdeal.Gen Cert.KernelIdeal.Body

/-- An index of one row of 128. -/
theorem idx_row (x : Shape.Idx S1x128) : ∃ l : Fin 128, x = ix2 0 l :=
  ⟨x 1, funext fun a => by fin_cases a; · exact Subsingleton.elim (α := Fin 1) _ _
                           · rfl⟩

/-- The named offset is ten times the logarithm of two. -/
theorem offset_named : (Named.named κ "usage_offset" 0x40DDCE9E#32 : Ideal .f32) = ((10 * Real.log 2 : ℝ) : EReal) :=
  IdealRules.named_const.ideal_named_scalar _ _ _ _ rfl

/-- The named logarithm of the number of codes is seventeen times the logarithm of two. -/
theorem codes_named : (Named.named κ "log_codes" 0x413C8939#32 : Ideal .f32) = ((17 * Real.log 2 : ℝ) : EReal) :=
  IdealRules.named_const.ideal_named_scalar _ _ _ _ rfl

/-- A row and a block that add up to a code's logarithms give the logarithm of its usage. -/
theorem pay7_apply (u v : Fin 17 → Fin 128 → EReal) (hu : ∀ k s, u k s ≤ 0) (hv : ∀ k s, v k s ≤ 0)
    (row : FVec Ideal S1x128 .f32) (blk : FVec Ideal S128x128 .f32) (l : Fin 128) (j : ℕ)
    (h : ∀ s : Fin 128, row (ix2 0 s) + blk (ix2 s l) = code u v j s) : k0_pay7 (F := Ideal) row blk (ix2 0 l) = lu u v j := by
  have e := lse_max (fun s => code u v j s) (fun s => code_le hu hv j s)
  have h' : ∀ s : Fin 128, blk (ix2 s l) + row (ix2 0 s) = code u v j s := fun s => (add_comm _ _).trans (h s)
  have e2 : k0_pay7 (F := Ideal) row blk (ix2 0 l)
      = (Ideal.log (∑ s : Fin 128, Ideal.exp ((blk (ix2 s l) + row (ix2 0 s)) - Finset.univ.fold max ⊥ fun s : Fin 128 => blk (ix2 s l) + row (ix2 0 s)))
          + Finset.univ.fold max ⊥ fun s : Fin 128 => blk (ix2 s l) + row (ix2 0 s)) + (Named.named κ "usage_offset" 0x40DDCE9E#32 : Ideal .f32) := by
    pointwise [k0_pay7, k0_pay6]
    rw [Consts.ofBits_bot]
  rw [e2, offset_named]
  simp only [h']
  rw [e]
  rfl

/-- What a step adds to the divergence. -/
def part (w : FVec Ideal S1x128 .f32) : FVec Ideal S1x128 .f32 :=
  mulf (exp (subf w (broadcast S1x128 (Named.named κ "log_codes" 0x413C8939#32)))) w

/-- A row's part of the divergence, lane by lane. -/
theorem part_apply (u v : Fin 17 → Fin 128 → EReal) (w : FVec Ideal S1x128 .f32) (l : Fin 128) (j : ℕ) (h : w (ix2 0 l) = lu u v j) :
    part w (ix2 0 l) = klt u v j := by
  show Ideal.exp (w (ix2 0 l) - (Named.named κ "log_codes" 0x413C8939#32 : Ideal .f32)) * w (ix2 0 l) = _
  rw [codes_named, h]; rfl

variable (acc row : FVec Ideal S1x128 .f32) (b₀ b₁ b₂ b₃ : FVec Ideal S128x128 .f32)

/-- A block's logarithms are the same function as the first block's. -/
theorem pay9_eq : k0_pay9 (F := Ideal) row b₁ = k0_pay7 (F := Ideal) row b₁ := rfl
/-- A block's logarithms are the same function as the first block's. -/
theorem pay10_eq : k0_pay10 (F := Ideal) (k0_pay6 (F := Ideal) row) b₂ = k0_pay7 (F := Ideal) row b₂ := rfl
/-- A block's logarithms are the same function as the first block's. -/
theorem pay33_eq : k0_pay33 (F := Ideal) (k0_pay12 (k0_pay6 (F := Ideal) row) b₃) k0_pay13 = k0_pay7 (F := Ideal) row b₃ := rfl

/-- What one trip of the first loop carries on. -/
theorem pay34_eq : k0_pay34 (F := Ideal) (k0_pay11 (k0_pay6 (F := Ideal) row) (k0_pay8 (F := Ideal) acc row b₀) (k0_pay9 (F := Ideal) row b₁) b₂) (k0_pay12 (F := Ideal) (k0_pay6 (F := Ideal) row) b₃) k0_pay13
    = addf (addf (addf (addf acc (part (k0_pay7 (F := Ideal) row b₀))) (part (k0_pay7 (F := Ideal) row b₁))) (part (k0_pay7 (F := Ideal) row b₂))) (part (k0_pay7 (F := Ideal) row b₃)) := rfl

/-- A block's logarithms are the same function as the first block's. -/
theorem pay15_eq : k0_pay15 (F := Ideal) row b₀ = k0_pay7 (F := Ideal) row b₀ := rfl
/-- A block's logarithms are the same function as the first block's. -/
theorem pay17_eq : k0_pay17 (F := Ideal) row b₁ = k0_pay7 (F := Ideal) row b₁ := rfl
/-- A block's logarithms are the same function as the first block's. -/
theorem pay18_eq : k0_pay18 (F := Ideal) (k0_pay14 (F := Ideal) row) b₂ = k0_pay7 (F := Ideal) row b₂ := rfl
/-- A block's logarithms are the same function as the first block's. -/
theorem pay45_eq : k0_pay45 (F := Ideal) (k0_pay20 (k0_pay14 (F := Ideal) row) b₃) k0_pay21 = k0_pay7 (F := Ideal) row b₃ := rfl

/-- What one trip of the second loop carries on. -/
theorem pay46_eq : k0_pay46 (F := Ideal) (k0_pay19 (k0_pay14 (F := Ideal) row) (k0_pay16 (F := Ideal) acc row b₀) (k0_pay17 (F := Ideal) row b₁) b₂) (k0_pay20 (F := Ideal) (k0_pay14 (F := Ideal) row) b₃) k0_pay21
    = addf (addf (addf (addf acc (part (k0_pay7 (F := Ideal) row b₀))) (part (k0_pay7 (F := Ideal) row b₁))) (part (k0_pay7 (F := Ideal) row b₂))) (part (k0_pay7 (F := Ideal) row b₃)) := rfl

/-- The sum over the lanes, as the kernel takes it. -/
theorem pay35_apply (w : FVec Ideal S1x128 .f32) : k0_pay35 w = ∑ l : Fin 128, w (ix2 0 l) := by
  pointwise [k0_pay35]; simp

/-- The sum over the lanes, as a sum. -/
theorem pay47_apply (w : FVec Ideal S1x128 .f32) : k0_pay47 w = ∑ l : Fin 128, w (ix2 0 l) := by
  pointwise [k0_pay47]; simp

end Cert.Val

end
-- ==== Proof.Val.Loop.lean ====
/- The slow path's loops: every trip writes four rows of the usages' logarithms and adds their part to the divergence. -/
module

public import proofs.«01_k».proof.Proof.Val.Trip

@[expose] public section

set_option maxRecDepth 16384

noncomputable section

namespace Cert.Val

open Idealize.ShloMosaic Cert.KernelIdeal Cert.KernelIdeal.Gen Cert.KernelIdeal.Body

/-- The logarithms of the usages as the kernel lays them out: even rows for the first batch entry, odd rows for the second. -/
def gLU (Z : ℕ → FVec Ideal S17x128 .f32) (y : Shape.Idx S2048x128) : EReal :=
  lu (U (Z ((y 0).val % 2))) (V (Z ((y 0).val % 2))) ((y 0).val / 2 * 128 + (y 1).val)

/-- The same at a row and lane. -/
theorem gLU_of (Z : ℕ → FVec Ideal S17x128 .f32) (y : Shape.Idx S2048x128) (b j : ℕ) (hb : (y 0).val % 2 = b)
    (hj : (y 0).val / 2 * 128 + (y 1).val = j) : gLU Z y = lu (U (Z b)) (V (Z b)) j := by
  subst hb hj; rfl

/-- A load of one row of the first scratch array. -/
theorem read_row (arg7 : Memref sig .tc .vmem S256x128 .f32) (X : arg7.view.ty.Contents (Elt Ideal)) (A : FVec Ideal S256x128 .f32)
    (hA : arg7.view.read (Elt Ideal) X = A) (off : Fin 2 → ℕ) (inb : ∀ a, off a + S1x128.size a ≤ S256x128.size a) (m : Fin 256)
    (h0 : off 0 = m.val) (h1 : off 1 = 0) (s : Fin 128) :
    arg7.view.readAt (Elt Ideal) (Rect.unit (s := S256x128) off S1x128.size inb).toLoadRect X (ix2 0 s) = A (ix2 m s) := by
  rw [View.readAt_apply, hA]
  refine congrArg A (funext fun a => Fin.ext ?_)
  fin_cases a
  · show off 0 + 1 * 0 = m.val; omega
  · show off 1 + 1 * s.val = s.val; omega

/-- A load of one block of columns of the second scratch array. -/
theorem read_block (arg6 : Memref sig .tc .vmem S128x512 .f32) (X : arg6.view.ty.Contents (Elt Ideal)) (B : FVec Ideal S128x512 .f32)
    (hB : arg6.view.read (Elt Ideal) X = B) (o : ℕ) (inb : ∀ a, (![0, o] : Fin 2 → ℕ) a + S128x128.size a ≤ S128x512.size a)
    (s l : Fin 128) (i : Fin 512) (hi : i.val = o + l.val) :
    arg6.view.readAt (Elt Ideal) (Rect.unit (s := S128x512) ![0, o] S128x128.size inb).toLoadRect X (ix2 s l) = B (ix2 s i) := by
  rw [View.readAt_apply, hB]
  refine congrArg B (funext fun a => Fin.ext ?_)
  fin_cases a
  · show 0 + 1 * s.val = s.val; omega
  · show o + 1 * l.val = i.val; omega

/-- What the scratch arrays hold while a loop runs: the two tables of sums. -/
def Holds (z : FVec Ideal S17x128 .f32) (A : FVec Ideal S256x128 .f32) (B : FVec Ideal S128x512 .f32) : Prop :=
  (∀ m s, A (ix2 m s) = tab (· + ·) 0 (U z) (V z) [2, 3, 4, 5, 6, 7, 8, 9] m.val s)
    ∧ ∀ s i, B (ix2 s i) = tab (· + ·) 0 (U z) (V z) [0, 1, 10, 11, 12, 13, 14, 15, 16] i.val s

/-- A row and a block, as loaded, give the logarithms of 128 usages. -/
theorem pay7_read (z : FVec Ideal S17x128 .f32) (A : FVec Ideal S256x128 .f32) (B : FVec Ideal S128x512 .f32) (hz : Holds z A B)
    (arg6 : Memref sig .tc .vmem S128x512 .f32) (arg7 : Memref sig .tc .vmem S256x128 .f32)
    (X6 : arg6.view.ty.Contents (Elt Ideal)) (X7 : arg7.view.ty.Contents (Elt Ideal)) (h6 : arg6.view.read (Elt Ideal) X6 = B)
    (h7 : arg7.view.read (Elt Ideal) X7 = A)
    (off : Fin 2 → ℕ) (inb : ∀ a, off a + S1x128.size a ≤ S256x128.size a) (m : Fin 256) (h0 : off 0 = m.val) (h1 : off 1 = 0)
    (o : ℕ) (inb' : ∀ a, (![0, o] : Fin 2 → ℕ) a + S128x128.size a ≤ S128x512.size a) (n : Fin 4) (ho : o = n.val * 128) (l : Fin 128) :
    k0_pay7 (F := Ideal) (arg7.view.readAt (Elt Ideal) (Rect.unit (s := S256x128) off S1x128.size inb).toLoadRect X7)
      (arg6.view.readAt (Elt Ideal) (Rect.unit (s := S128x512) ![0, o] S128x128.size inb').toLoadRect X6) (ix2 0 l)
      = lu (U z) (V z) ((n.val * 256 + m.val) * 128 + l.val) := by
  refine pay7_apply _ _ (U_le z) (V_le z) _ _ l _ fun s => ?_
  rw [read_row arg7 X7 A h7 off inb m h0 h1 s, read_block arg6 X6 B h6 o inb' s l ⟨n.val * 128 + l.val, by omega⟩ (by simp only; omega),
    hz.1, hz.2]
  exact tab_split n.val m.val l.val m.isLt l.isLt n.isLt s

/-- A row of 128 written at its place. -/
theorem row_piece (Z : ℕ → FVec Ideal S17x128 .f32) (w : FVec Ideal S1x128 .f32) (b m n : ℕ) (hb : b < 2) (hm : m < 256)
    (hw : ∀ l : Fin 128, w (ix2 0 l) = lu (U (Z b)) (V (Z b)) ((n * 256 + m) * 128 + l.val))
    (off : Fin 2 → ℕ) (inb : ∀ a, off a + S1x128.size a ≤ S2048x128.size a) (h0 : off 0 = n * 512 + b + 2 * m) (h1 : off 1 = 0)
    (x : Shape.Idx S1x128) : w x = gLU Z ((Rect.unit (s := S2048x128) off S1x128.size inb).emb x) := by
  obtain ⟨l, rfl⟩ := idx_row x
  have e0 : (((Rect.unit (s := S2048x128) off S1x128.size inb).emb (ix2 0 l)) 0).val = n * 512 + b + 2 * m := by
    show off 0 + 1 * 0 = _; omega
  have e1 : (((Rect.unit (s := S2048x128) off S1x128.size inb).emb (ix2 0 l)) 1).val = l.val := by
    show off 1 + 1 * l.val = _; omega
  rw [hw]
  exact (gLU_of Z _ b _ (by rw [e0]; omega) (by rw [e0, e1]; congr 2; omega)).symm

/-- The loop's counter at trip `k` is `k`. -/
theorem trip_iv (k : ℕ) (h : k < 256) : (Scf.iv 0#32 1#32 k).toNat = k := by
  simp only [Scf.iv, BitVec.toNat_add, BitVec.toNat_mul, BitVec.toNat_ofNat]; omega

/-- The row a trip writes, as a number. -/
theorem trip_row (k c : ℕ) (h : k < 256) (hc : c < 2048) :
    (Scalar.addi (BitVec.ofNat 32 c) (Scalar.muli 2#32 (Scf.iv 0#32 1#32 k)) : BitVec 32).toNat = c + 2 * k := by
  show ((BitVec.ofNat 32 c) + (2#32 * Scf.iv 0#32 1#32 k)).toNat = _
  rw [BitVec.toNat_add, BitVec.toNat_mul, trip_iv k h]
  simp only [BitVec.toNat_ofNat]; omega

/-- One row of 128 lies in the output. -/
theorem row_inb {off : Fin 2 → ℕ} (r : ℕ) (h0 : off 0 = r) (h1 : off 1 = 0) (hr : r < 2048 := by omega) :
    ∀ a, off a + S1x128.size a ≤ S2048x128.size a := fun a => by
  fin_cases a
  · show off 0 + 1 ≤ 2048; omega
  · show off 1 + 128 ≤ 128; omega

/-- The divergence's part of the codes in the rows before a trip, lane by lane. -/
def klUpTo (z : FVec Ideal S17x128 .f32) (k : ℕ) (l : Fin 128) : EReal :=
  ∑ m ∈ Finset.range k, ∑ n : Fin 4, klt (U z) (V z) ((n.val * 256 + m) * 128 + l.val)

/-- The lanes' parts of the divergence add up to the sum over the codes. -/
theorem kl_lanes (z : FVec Ideal S17x128 .f32) : ∑ l : Fin 128, klUpTo z 256 l = ∑ j : Fin 131072, klt (U z) (V z) j.val := by
  rw [sum_codes]
  simp only [klUpTo, Finset.sum_range]
  rw [Finset.sum_comm]
  exact Finset.sum_congr rfl fun m _ => Finset.sum_comm

/-- A trip's sum of four parts. -/
theorem trip_acc (z : FVec Ideal S17x128 .f32) (acc w₀ w₁ w₂ w₃ : FVec Ideal S1x128 .f32) (m : ℕ)
    (h₀ : ∀ l : Fin 128, w₀ (ix2 0 l) = lu (U z) (V z) ((0 * 256 + m) * 128 + l.val))
    (h₁ : ∀ l : Fin 128, w₁ (ix2 0 l) = lu (U z) (V z) ((1 * 256 + m) * 128 + l.val))
    (h₂ : ∀ l : Fin 128, w₂ (ix2 0 l) = lu (U z) (V z) ((2 * 256 + m) * 128 + l.val))
    (h₃ : ∀ l : Fin 128, w₃ (ix2 0 l) = lu (U z) (V z) ((3 * 256 + m) * 128 + l.val)) (l : Fin 128)
    (ha : acc (ix2 0 l) = klUpTo z m l) :
    addf (addf (addf (addf acc (part w₀)) (part w₁)) (part w₂)) (part w₃) (ix2 0 l) = klUpTo z (m + 1) l := by
  show ((((acc (ix2 0 l) : EReal) + part w₀ (ix2 0 l)) + part w₁ (ix2 0 l)) + part w₂ (ix2 0 l)) + part w₃ (ix2 0 l) = _
  rw [part_apply _ _ w₀ l _ (h₀ l), part_apply _ _ w₁ l _ (h₁ l), part_apply _ _ w₂ l _ (h₂ l), part_apply _ _ w₃ l _ (h₃ l), ha]
  rw [klUpTo, klUpTo, Finset.sum_range_succ, Fin.sum_univ_four]
  simp only [← add_assoc]
  rfl

section Loop1

variable (c : Dev nD) (arg0 : Memref sig .tc .vmem S17x2x128 .bf16) (harg0 : arg0.IsWhole) (arg1 : Memref sig .tc .vmem S2x128 .i32) (harg1 : arg1.IsWhole)
  (arg2 : Memref sig .tc .vmem S2x128 .f32) (harg2 : arg2.IsWhole) (arg3 : Memref sig .tc .vmem S2x128 .f32) (harg3 : arg3.IsWhole)
  (arg4 : Memref sig .tc .vmem S2048x128 .f32) (harg4 : arg4.IsWhole) (arg5 : Memref sig .tc .smem S2 .f32) (harg5 : arg5.IsWhole)
  (arg6 : Memref sig .tc .vmem S128x512 .f32) (harg6 : arg6.IsWhole) (arg7 : Memref sig .tc .vmem S256x128 .f32) (harg7 : arg7.IsWhole)
variable (v48 v319 v324 : FVec Ideal S17x128 .f32) (v712 v714 : FVec Ideal S256x128 .f32)
variable (Z : ℕ → FVec Ideal S17x128 .f32) (A : FVec Ideal S256x128 .f32) (B : FVec Ideal S128x512 .f32) (hz : Holds (Z 0) A B)
  (X6 : arg6.view.ty.Contents (Elt Ideal)) (X7 : arg7.view.ty.Contents (Elt Ideal)) (h6 : arg6.view.read (Elt Ideal) X6 = B)
  (h7 : arg7.view.read (Elt Ideal) X7 = A)

/-- The first loop has 256 trips. -/
theorem trips1 : k0_t1_loop.trips = 256 := by decide

include hz h6 h7 in
/-- The pieces one trip of the first loop writes hold the logarithms of the usages of their codes. -/
theorem trip1_pieces (k : Fin k0_t1_loop.trips) (acc : FVec Ideal S1x128 .f32) :
    ∀ p ∈ tripL_k0_t1 (F := Ideal) Variants.none c none arg0 harg0 arg1 harg1 arg2 harg2 arg3 harg3 arg4 harg4 arg5 harg5 arg6 harg6 arg7 harg7 v48 v319 v324 v712 v714 X6 X7 k acc, ∀ x, p.2 x = gLU Z (p.1.emb x) := by
  have hk : k.val < 256 := trips1 ▸ k.isLt
  unfold tripL_k0_t1 trip_k0_t1
  intro p hp
  simp only [List.mem_cons, List.not_mem_nil, or_false] at hp
  rcases hp with rfl | rfl | rfl | rfl
  · intro x
    refine row_piece Z _ 0 k.val 3 (by omega) hk (fun l => ?_) _ (row_inb _ (trip_row k.val 1536 hk (by omega)) rfl) (trip_row k.val 1536 hk (by omega)) rfl x
    exact pay7_read (Z 0) A B hz arg6 arg7 X6 X7 h6 h7 (k0_off1 k) _ ⟨k.val, hk⟩ (trip_iv k.val hk) rfl 384 _ 3 rfl l
  · intro x
    refine row_piece Z _ 0 k.val 2 (by omega) hk (fun l => ?_) _ (row_inb _ (trip_row k.val 1024 hk (by omega)) rfl) (trip_row k.val 1024 hk (by omega)) rfl x
    exact pay7_read (Z 0) A B hz arg6 arg7 X6 X7 h6 h7 (k0_off1 k) _ ⟨k.val, hk⟩ (trip_iv k.val hk) rfl 256 _ 2 rfl l
  · intro x
    refine row_piece Z _ 0 k.val 1 (by omega) hk (fun l => ?_) _ (row_inb _ (trip_row k.val 512 hk (by omega)) rfl) (trip_row k.val 512 hk (by omega)) rfl x
    exact pay7_read (Z 0) A B hz arg6 arg7 X6 X7 h6 h7 (k0_off1 k) _ ⟨k.val, hk⟩ (trip_iv k.val hk) rfl 128 _ 1 rfl l
  · intro x
    refine row_piece Z _ 0 k.val 0 (by omega) hk (fun l => ?_) _ (row_inb _ (trip_row k.val 0 hk (by omega)) rfl) (trip_row k.val 0 hk (by omega)) rfl x
    exact pay7_read (Z 0) A B hz arg6 arg7 X6 X7 h6 h7 (k0_off1 k) _ ⟨k.val, hk⟩ (trip_iv k.val hk) rfl 0 _ 0 rfl l

include hz h6 h7 in
/-- What one trip of the first loop carries on: the divergence's part of one more row. -/
theorem trip1_acc (k : Fin k0_t1_loop.trips) (acc : FVec Ideal S1x128 .f32) (l : Fin 128) (ha : acc (ix2 0 l) = klUpTo (Z 0) k.val l) :
    tripR_k0_t1 (F := Ideal) Variants.none c none arg0 harg0 arg1 harg1 arg2 harg2 arg3 harg3 arg4 harg4 arg5 harg5 arg6 harg6 arg7 harg7 v48 v319 v324 v712 v714 X6 X7 k acc (ix2 0 l) = klUpTo (Z 0) (k.val + 1) l := by
  have hk : k.val < 256 := trips1 ▸ k.isLt
  unfold tripR_k0_t1 trip_k0_t1
  exact trip_acc (Z 0) acc _ _ _ _ k.val
    (fun l => pay7_read (Z 0) A B hz arg6 arg7 X6 X7 h6 h7 (k0_off1 k) _ ⟨k.val, hk⟩ (trip_iv k.val hk) rfl 0 _ 0 rfl l)
    (fun l => pay7_read (Z 0) A B hz arg6 arg7 X6 X7 h6 h7 (k0_off1 k) _ ⟨k.val, hk⟩ (trip_iv k.val hk) rfl 128 _ 1 rfl l)
    (fun l => pay7_read (Z 0) A B hz arg6 arg7 X6 X7 h6 h7 (k0_off1 k) _ ⟨k.val, hk⟩ (trip_iv k.val hk) rfl 256 _ 2 rfl l)
    (fun l => pay7_read (Z 0) A B hz arg6 arg7 X6 X7 h6 h7 (k0_off1 k) _ ⟨k.val, hk⟩ (trip_iv k.val hk) rfl 384 _ 3 rfl l) l ha

include hz h6 h7 in
/-- The state of the first loop before any trip: the divergence's part so far, and pieces that hold the usages' logarithms. -/
theorem state1 (K : ℕ) (hK : K ≤ k0_t1_loop.trips) :
    (∀ l : Fin 128, (st_k0_t1 (F := Ideal) Variants.none c none arg0 harg0 arg1 harg1 arg2 harg2 arg3 harg3 arg4 harg4 arg5 harg5 arg6 harg6 arg7 harg7 v48 v319 v324 v712 v714 X6 X7 k0_pay32 K).1 (ix2 0 l) = klUpTo (Z 0) K l)
      ∧ ∀ p ∈ (st_k0_t1 (F := Ideal) Variants.none c none arg0 harg0 arg1 harg1 arg2 harg2 arg3 harg3 arg4 harg4 arg5 harg5 arg6 harg6 arg7 harg7 v48 v319 v324 v712 v714 X6 X7 k0_pay32 K).2, ∀ x, p.2 x = gLU Z (p.1.emb x) := by
  induction K with
  | zero =>
    refine ⟨fun l => ?_, fun p hp => absurd hp List.not_mem_nil⟩
    show Ideal.ofBits FTy.f32 0x00000000#32 = _
    rw [show klUpTo (Z 0) 0 l = 0 from rfl]
    simp
  | succ K ih =>
    obtain ⟨i1, i2⟩ := ih (by omega)
    rw [st_k0_t1_succ Variants.none c none arg0 harg0 arg1 harg1 arg2 harg2 arg3 harg3 arg4 harg4 arg5 harg5 arg6 harg6 arg7 harg7 v48 v319 v324 v712 v714 X6 X7 k0_pay32 ⟨K, hK⟩]
    refine ⟨fun l => trip1_acc c arg0 harg0 arg1 harg1 arg2 harg2 arg3 harg3 arg4 harg4 arg5 harg5 arg6 harg6 arg7 harg7 v48 v319 v324 v712 v714 Z A B hz X6 X7 h6 h7 ⟨K, hK⟩ _ l (i1 l), fun p hp => ?_⟩
    rcases List.mem_append.1 hp with hp | hp
    · exact trip1_pieces c arg0 harg0 arg1 harg1 arg2 harg2 arg3 harg3 arg4 harg4 arg5 harg5 arg6 harg6 arg7 harg7 v48 v319 v324 v712 v714 Z A B hz X6 X7 h6 h7 ⟨K, hK⟩ _ p hp
    · exact i2 p hp

include hz h6 h7 in
/-- What the first loop leaves: the whole divergence. -/
theorem kl1 : k0_pay35 (st_k0_t1 (F := Ideal) Variants.none c none arg0 harg0 arg1 harg1 arg2 harg2 arg3 harg3 arg4 harg4 arg5 harg5 arg6 harg6 arg7 harg7 v48 v319 v324 v712 v714 X6 X7 k0_pay32 k0_t1_loop.trips).1
    = ∑ j : Fin 131072, klt (U (Z 0)) (V (Z 0)) j.val := by
  rw [pay35_apply, ← kl_lanes]
  exact Finset.sum_congr rfl fun l _ => by
    rw [(state1 c arg0 harg0 arg1 harg1 arg2 harg2 arg3 harg3 arg4 harg4 arg5 harg5 arg6 harg6 arg7 harg7 v48 v319 v324 v712 v714 Z A B hz X6 X7 h6 h7 k0_t1_loop.trips le_rfl).1 l, trips1]

end Loop1

section Loop2

variable (c : Dev nD) (arg0 : Memref sig .tc .vmem S17x2x128 .bf16) (harg0 : arg0.IsWhole) (arg1 : Memref sig .tc .vmem S2x128 .i32) (harg1 : arg1.IsWhole)
  (arg2 : Memref sig .tc .vmem S2x128 .f32) (harg2 : arg2.IsWhole) (arg3 : Memref sig .tc .vmem S2x128 .f32) (harg3 : arg3.IsWhole)
  (arg4 : Memref sig .tc .vmem S2048x128 .f32) (harg4 : arg4.IsWhole) (arg5 : Memref sig .tc .smem S2 .f32) (harg5 : arg5.IsWhole)
  (arg6 : Memref sig .tc .vmem S128x512 .f32) (harg6 : arg6.IsWhole) (arg7 : Memref sig .tc .vmem S256x128 .f32) (harg7 : arg7.IsWhole)
variable (v48 v53 v319 v324 : FVec Ideal S17x128 .f32)
variable (Z : ℕ → FVec Ideal S17x128 .f32) (A : FVec Ideal S256x128 .f32) (B : FVec Ideal S128x512 .f32) (hz : Holds (Z 1) A B)
  (X6 : arg6.view.ty.Contents (Elt Ideal)) (X7 : arg7.view.ty.Contents (Elt Ideal)) (h6 : arg6.view.read (Elt Ideal) X6 = B)
  (h7 : arg7.view.read (Elt Ideal) X7 = A)

/-- The second loop has 256 trips. -/
theorem trips2 : k0_t2_loop.trips = 256 := by decide

include hz h6 h7 in
/-- The pieces one trip of the second loop writes hold the logarithms of the usages of their codes. -/
theorem trip2_pieces (k : Fin k0_t2_loop.trips) (acc : FVec Ideal S1x128 .f32) :
    ∀ p ∈ tripL_k0_t2 (F := Ideal) Variants.none c none arg0 harg0 arg1 harg1 arg2 harg2 arg3 harg3 arg4 harg4 arg5 harg5 arg6 harg6 arg7 harg7 v48 v53 v319 v324 X6 X7 k acc, ∀ x, p.2 x = gLU Z (p.1.emb x) := by
  have hk : k.val < 256 := trips2 ▸ k.isLt
  unfold tripL_k0_t2 trip_k0_t2
  intro p hp
  simp only [List.mem_cons, List.not_mem_nil, or_false] at hp
  rcases hp with rfl | rfl | rfl | rfl
  · intro x
    refine row_piece Z _ 1 k.val 3 (by omega) hk (fun l => ?_) _ (row_inb _ (trip_row k.val 1537 hk (by omega)) rfl) (trip_row k.val 1537 hk (by omega)) rfl x
    exact pay7_read (Z 1) A B hz arg6 arg7 X6 X7 h6 h7 (k0_off3 k) _ ⟨k.val, hk⟩ (trip_iv k.val hk) rfl 384 _ 3 rfl l
  · intro x
    refine row_piece Z _ 1 k.val 2 (by omega) hk (fun l => ?_) _ (row_inb _ (trip_row k.val 1025 hk (by omega)) rfl) (trip_row k.val 1025 hk (by omega)) rfl x
    exact pay7_read (Z 1) A B hz arg6 arg7 X6 X7 h6 h7 (k0_off3 k) _ ⟨k.val, hk⟩ (trip_iv k.val hk) rfl 256 _ 2 rfl l
  · intro x
    refine row_piece Z _ 1 k.val 1 (by omega) hk (fun l => ?_) _ (row_inb _ (trip_row k.val 513 hk (by omega)) rfl) (trip_row k.val 513 hk (by omega)) rfl x
    exact pay7_read (Z 1) A B hz arg6 arg7 X6 X7 h6 h7 (k0_off3 k) _ ⟨k.val, hk⟩ (trip_iv k.val hk) rfl 128 _ 1 rfl l
  · intro x
    refine row_piece Z _ 1 k.val 0 (by omega) hk (fun l => ?_) _ (row_inb _ (trip_row k.val 1 hk (by omega)) rfl) (trip_row k.val 1 hk (by omega)) rfl x
    exact pay7_read (Z 1) A B hz arg6 arg7 X6 X7 h6 h7 (k0_off3 k) _ ⟨k.val, hk⟩ (trip_iv k.val hk) rfl 0 _ 0 rfl l

include hz h6 h7 in
/-- What one trip of the second loop carries on: the divergence's part of one more row. -/
theorem trip2_acc (k : Fin k0_t2_loop.trips) (acc : FVec Ideal S1x128 .f32) (l : Fin 128) (ha : acc (ix2 0 l) = klUpTo (Z 1) k.val l) :
    tripR_k0_t2 (F := Ideal) Variants.none c none arg0 harg0 arg1 harg1 arg2 harg2 arg3 harg3 arg4 harg4 arg5 harg5 arg6 harg6 arg7 harg7 v48 v53 v319 v324 X6 X7 k acc (ix2 0 l) = klUpTo (Z 1) (k.val + 1) l := by
  have hk : k.val < 256 := trips2 ▸ k.isLt
  unfold tripR_k0_t2 trip_k0_t2
  exact trip_acc (Z 1) acc _ _ _ _ k.val
    (fun l => pay7_read (Z 1) A B hz arg6 arg7 X6 X7 h6 h7 (k0_off3 k) _ ⟨k.val, hk⟩ (trip_iv k.val hk) rfl 0 _ 0 rfl l)
    (fun l => pay7_read (Z 1) A B hz arg6 arg7 X6 X7 h6 h7 (k0_off3 k) _ ⟨k.val, hk⟩ (trip_iv k.val hk) rfl 128 _ 1 rfl l)
    (fun l => pay7_read (Z 1) A B hz arg6 arg7 X6 X7 h6 h7 (k0_off3 k) _ ⟨k.val, hk⟩ (trip_iv k.val hk) rfl 256 _ 2 rfl l)
    (fun l => pay7_read (Z 1) A B hz arg6 arg7 X6 X7 h6 h7 (k0_off3 k) _ ⟨k.val, hk⟩ (trip_iv k.val hk) rfl 384 _ 3 rfl l) l ha

include hz h6 h7 in
/-- The state of the second loop before any trip: the divergence's part so far, and pieces that hold the usages' logarithms. -/
theorem state2 (K : ℕ) (hK : K ≤ k0_t2_loop.trips) :
    (∀ l : Fin 128, (st_k0_t2 (F := Ideal) Variants.none c none arg0 harg0 arg1 harg1 arg2 harg2 arg3 harg3 arg4 harg4 arg5 harg5 arg6 harg6 arg7 harg7 v48 v53 v319 v324 X6 X7 k0_pay44 K).1 (ix2 0 l) = klUpTo (Z 1) K l)
      ∧ ∀ p ∈ (st_k0_t2 (F := Ideal) Variants.none c none arg0 harg0 arg1 harg1 arg2 harg2 arg3 harg3 arg4 harg4 arg5 harg5 arg6 harg6 arg7 harg7 v48 v53 v319 v324 X6 X7 k0_pay44 K).2, ∀ x, p.2 x = gLU Z (p.1.emb x) := by
  induction K with
  | zero =>
    refine ⟨fun l => ?_, fun p hp => absurd hp List.not_mem_nil⟩
    show Ideal.ofBits FTy.f32 0x00000000#32 = _
    rw [show klUpTo (Z 1) 0 l = 0 from rfl]
    simp
  | succ K ih =>
    obtain ⟨i1, i2⟩ := ih (by omega)
    rw [st_k0_t2_succ Variants.none c none arg0 harg0 arg1 harg1 arg2 harg2 arg3 harg3 arg4 harg4 arg5 harg5 arg6 harg6 arg7 harg7 v48 v53 v319 v324 X6 X7 k0_pay44 ⟨K, hK⟩]
    refine ⟨fun l => trip2_acc c arg0 harg0 arg1 harg1 arg2 harg2 arg3 harg3 arg4 harg4 arg5 harg5 arg6 harg6 arg7 harg7 v48 v53 v319 v324 Z A B hz X6 X7 h6 h7 ⟨K, hK⟩ _ l (i1 l), fun p hp => ?_⟩
    rcases List.mem_append.1 hp with hp | hp
    · exact trip2_pieces c arg0 harg0 arg1 harg1 arg2 harg2 arg3 harg3 arg4 harg4 arg5 harg5 arg6 harg6 arg7 harg7 v48 v53 v319 v324 Z A B hz X6 X7 h6 h7 ⟨K, hK⟩ _ p hp
    · exact i2 p hp

include hz h6 h7 in
/-- What the second loop leaves: the whole divergence. -/
theorem kl2 : k0_pay47 (st_k0_t2 (F := Ideal) Variants.none c none arg0 harg0 arg1 harg1 arg2 harg2 arg3 harg3 arg4 harg4 arg5 harg5 arg6 harg6 arg7 harg7 v48 v53 v319 v324 X6 X7 k0_pay44 k0_t2_loop.trips).1
    = ∑ j : Fin 131072, klt (U (Z 1)) (V (Z 1)) j.val := by
  rw [pay47_apply, ← kl_lanes]
  exact Finset.sum_congr rfl fun l _ => by
    rw [(state2 c arg0 harg0 arg1 harg1 arg2 harg2 arg3 harg3 arg4 harg4 arg5 harg5 arg6 harg6 arg7 harg7 v48 v53 v319 v324 Z A B hz X6 X7 h6 h7 k0_t2_loop.trips le_rfl).1 l, trips2]

end Loop2

end Cert.Val

end
-- ==== Proof.Val.OutSmall.lean ====
/- What the kernel's stores leave in its outputs, over the reals: the small results, one row a batch entry. -/
module

public import proofs.«01_k».proof.Proof.KernelIdealBody
public import proofs.«01_k».proof.Proof.Val.Small
public import proofs.«01_k».proof.Proof.Val.Kl
public import proofs.«01_k».proof.Proof.Val.Loop

@[expose] public section

set_option maxRecDepth 16384

noncomputable section

namespace Cert.Val

open Idealize.ShloMosaic Cert.KernelIdeal Cert.KernelIdeal.Gen Cert.KernelIdeal.Body

variable (c : Dev nD) (arg0 : Memref sig .tc .vmem S17x2x128 .bf16) (harg0 : arg0.IsWhole) (arg1 : Memref sig .tc .vmem S2x128 .i32) (harg1 : arg1.IsWhole)
  (arg2 : Memref sig .tc .vmem S2x128 .f32) (harg2 : arg2.IsWhole) (arg3 : Memref sig .tc .vmem S2x128 .f32) (harg3 : arg3.IsWhole)
  (arg4 : Memref sig .tc .vmem S2048x128 .f32) (harg4 : arg4.IsWhole) (arg5 : Memref sig .tc .smem S2 .f32) (harg5 : arg5.IsWhole)
  (arg6 : Memref sig .tc .vmem S128x512 .f32) (harg6 : arg6.IsWhole) (arg7 : Memref sig .tc .vmem S256x128 .f32) (harg7 : arg7.IsWhole)
  (x0 : Vec Ideal S17x2x128 .bf16)

/-- The two batch entries' inputs, as the body reads them. -/
def Zin (x : Vec Ideal S17x2x128 .bf16) : ℕ → FVec Ideal S17x128 .f32
  | 0 => k0_pay49 (F := Ideal) x
  | _ + 1 => k0_pay50 (F := Ideal) x

/-- A row of an output with one row a batch entry. -/
theorem emb_row (o : ℕ) (ho : o < 2) (inb : ∀ a, (![o, 0] : Fin 2 → ℕ) a + S1x128.size a ≤ S2x128.size a) (l : Fin 128) :
    (Rect.unit (s := S2x128) ![o, 0] S1x128.size inb).emb (ix2 0 l) = ix2 ⟨o, ho⟩ l := by
  funext a
  refine Fin.ext ?_
  fin_cases a
  · show o + 1 * 0 = o; omega
  · show 0 + 1 * l.val = l.val; omega

/-- A row's piece holds a function's row. -/
theorem row2 {α : Type} (G : Shape.Idx S2x128 → α) (w : Shape.Idx S1x128 → α) (o : ℕ) (ho : o < 2)
    (inb : ∀ a, (![o, 0] : Fin 2 → ℕ) a + S1x128.size a ≤ S2x128.size a) (h : ∀ l : Fin 128, w (ix2 0 l) = G (ix2 ⟨o, ho⟩ l))
    (x : Shape.Idx S1x128) : w x = G ((Rect.unit (s := S2x128) ![o, 0] S1x128.size inb).emb x) := by
  obtain ⟨l, rfl⟩ := idx_row x
  rw [emb_row o ho inb l, h]

/-- Output 1's stores hold `idx`, on either path. -/
theorem out1_eq (b : Fin 2) (s : Fin 128) :
    out1 (F := Ideal) c arg0 harg0 arg1 harg1 arg2 harg2 arg3 harg3 arg4 harg4 arg5 harg5 arg6 harg6 arg7 harg7 x0 (ix2 b s) = idx (Zin (xin arg0 harg0 x0) b.val) s := by
  unfold out1
  split
  · rename_i hc
    refine View.read_writes_apply_of_pieces (Val := Elt Ideal) _ _ (fun y : Shape.Idx S2x128 => idx (Zin (xin arg0 harg0 x0) (y 0).val) (y 1)) _ ?_ (ix2 b s) (coverSlow1 c arg0 harg0 arg1 harg1 arg2 harg2 arg3 harg3 arg4 harg4 arg5 harg5 arg6 harg6 arg7 harg7 x0 hc (ix2 b s))
    unfold runSlow; dsimp only
    intro p hp
    rcases List.mem_cons.1 hp with rfl | hp
    · refine row2 (fun y : Shape.Idx S2x128 => idx (Zin (xin arg0 harg0 x0) (y 0).val) (y 1)) _ 1 (by decide) inb_S2x128_S1x128_1_0 (fun l => ?_)
      exact idx_apply (k0_pay50 (F := Ideal) (xin arg0 harg0 x0)) l
    rcases List.mem_cons.1 hp with rfl | hp
    · refine row2 (fun y : Shape.Idx S2x128 => idx (Zin (xin arg0 harg0 x0) (y 0).val) (y 1)) _ 0 (by decide) inb_S2x128_S1x128_0_0 (fun l => ?_)
      exact idx_apply (k0_pay49 (F := Ideal) (xin arg0 harg0 x0)) l
    exact absurd hp List.not_mem_nil
  · rename_i hc
    refine View.read_writes_apply_of_pieces (Val := Elt Ideal) _ _ (fun y : Shape.Idx S2x128 => idx (Zin (xin arg0 harg0 x0) (y 0).val) (y 1)) _ ?_ (ix2 b s) (coverFast1 c arg0 harg0 arg1 harg1 arg2 harg2 arg3 harg3 arg4 harg4 arg5 harg5 arg6 harg6 arg7 harg7 x0 hc (ix2 b s))
    unfold runFast; dsimp only
    intro p hp
    rcases List.mem_cons.1 hp with rfl | hp
    · refine row2 (fun y : Shape.Idx S2x128 => idx (Zin (xin arg0 harg0 x0) (y 0).val) (y 1)) _ 1 (by decide) inb_S2x128_S1x128_1_0 (fun l => ?_)
      exact idx_apply (k0_pay50 (F := Ideal) (xin arg0 harg0 x0)) l
    rcases List.mem_cons.1 hp with rfl | hp
    · refine row2 (fun y : Shape.Idx S2x128 => idx (Zin (xin arg0 harg0 x0) (y 0).val) (y 1)) _ 0 (by decide) inb_S2x128_S1x128_0_0 (fun l => ?_)
      exact idx_apply (k0_pay49 (F := Ideal) (xin arg0 harg0 x0)) l
    exact absurd hp List.not_mem_nil

/-- Output 2's stores hold `ent`, on either path. -/
theorem out2_eq (b : Fin 2) (s : Fin 128) :
    out2 (F := Ideal) c arg0 harg0 arg1 harg1 arg2 harg2 arg3 harg3 arg4 harg4 arg5 harg5 arg6 harg6 arg7 harg7 x0 (ix2 b s) = ent (Zin (xin arg0 harg0 x0) b.val) s := by
  unfold out2
  split
  · rename_i hc
    refine View.read_writes_apply_of_pieces (Val := Elt Ideal) _ _ (fun y : Shape.Idx S2x128 => ent (Zin (xin arg0 harg0 x0) (y 0).val) (y 1)) _ ?_ (ix2 b s) (coverSlow2 c arg0 harg0 arg1 harg1 arg2 harg2 arg3 harg3 arg4 harg4 arg5 harg5 arg6 harg6 arg7 harg7 x0 hc (ix2 b s))
    unfold runSlow; dsimp only
    intro p hp
    rcases List.mem_cons.1 hp with rfl | hp
    · refine row2 (fun y : Shape.Idx S2x128 => ent (Zin (xin arg0 harg0 x0) (y 0).val) (y 1)) _ 1 (by decide) inb_S2x128_S1x128_1_0 (fun l => ?_)
      exact ent_apply (k0_pay50 (F := Ideal) (xin arg0 harg0 x0)) l
    rcases List.mem_cons.1 hp with rfl | hp
    · refine row2 (fun y : Shape.Idx S2x128 => ent (Zin (xin arg0 harg0 x0) (y 0).val) (y 1)) _ 0 (by decide) inb_S2x128_S1x128_0_0 (fun l => ?_)
      exact ent_apply (k0_pay49 (F := Ideal) (xin arg0 harg0 x0)) l
    exact absurd hp List.not_mem_nil
  · rename_i hc
    refine View.read_writes_apply_of_pieces (Val := Elt Ideal) _ _ (fun y : Shape.Idx S2x128 => ent (Zin (xin arg0 harg0 x0) (y 0).val) (y 1)) _ ?_ (ix2 b s) (coverFast2 c arg0 harg0 arg1 harg1 arg2 harg2 arg3 harg3 arg4 harg4 arg5 harg5 arg6 harg6 arg7 harg7 x0 hc (ix2 b s))
    unfold runFast; dsimp only
    intro p hp
    rcases List.mem_cons.1 hp with rfl | hp
    · refine row2 (fun y : Shape.Idx S2x128 => ent (Zin (xin arg0 harg0 x0) (y 0).val) (y 1)) _ 1 (by decide) inb_S2x128_S1x128_1_0 (fun l => ?_)
      exact ent_apply (k0_pay50 (F := Ideal) (xin arg0 harg0 x0)) l
    rcases List.mem_cons.1 hp with rfl | hp
    · refine row2 (fun y : Shape.Idx S2x128 => ent (Zin (xin arg0 harg0 x0) (y 0).val) (y 1)) _ 0 (by decide) inb_S2x128_S1x128_0_0 (fun l => ?_)
      exact ent_apply (k0_pay49 (F := Ideal) (xin arg0 harg0 x0)) l
    exact absurd hp List.not_mem_nil

/-- Output 3's stores hold `com`, on either path. -/
theorem out3_eq (b : Fin 2) (s : Fin 128) :
    out3 (F := Ideal) c arg0 harg0 arg1 harg1 arg2 harg2 arg3 harg3 arg4 harg4 arg5 harg5 arg6 harg6 arg7 harg7 x0 (ix2 b s) = com (Zin (xin arg0 harg0 x0) b.val) s := by
  unfold out3
  split
  · rename_i hc
    refine View.read_writes_apply_of_pieces (Val := Elt Ideal) _ _ (fun y : Shape.Idx S2x128 => com (Zin (xin arg0 harg0 x0) (y 0).val) (y 1)) _ ?_ (ix2 b s) (coverSlow3 c arg0 harg0 arg1 harg1 arg2 harg2 arg3 harg3 arg4 harg4 arg5 harg5 arg6 harg6 arg7 harg7 x0 hc (ix2 b s))
    unfold runSlow; dsimp only
    intro p hp
    rcases List.mem_cons.1 hp with rfl | hp
    · refine row2 (fun y : Shape.Idx S2x128 => com (Zin (xin arg0 harg0 x0) (y 0).val) (y 1)) _ 1 (by decide) inb_S2x128_S1x128_1_0 (fun l => ?_)
      exact com_apply (k0_pay50 (F := Ideal) (xin arg0 harg0 x0)) l
    rcases List.mem_cons.1 hp with rfl | hp
    · refine row2 (fun y : Shape.Idx S2x128 => com (Zin (xin arg0 harg0 x0) (y 0).val) (y 1)) _ 0 (by decide) inb_S2x128_S1x128_0_0 (fun l => ?_)
      exact com_apply (k0_pay49 (F := Ideal) (xin arg0 harg0 x0)) l
    exact absurd hp List.not_mem_nil
  · rename_i hc
    refine View.read_writes_apply_of_pieces (Val := Elt Ideal) _ _ (fun y : Shape.Idx S2x128 => com (Zin (xin arg0 harg0 x0) (y 0).val) (y 1)) _ ?_ (ix2 b s) (coverFast3 c arg0 harg0 arg1 harg1 arg2 harg2 arg3 harg3 arg4 harg4 arg5 harg5 arg6 harg6 arg7 harg7 x0 hc (ix2 b s))
    unfold runFast; dsimp only
    intro p hp
    rcases List.mem_cons.1 hp with rfl | hp
    · refine row2 (fun y : Shape.Idx S2x128 => com (Zin (xin arg0 harg0 x0) (y 0).val) (y 1)) _ 1 (by decide) inb_S2x128_S1x128_1_0 (fun l => ?_)
      exact com_apply (k0_pay50 (F := Ideal) (xin arg0 harg0 x0)) l
    rcases List.mem_cons.1 hp with rfl | hp
    · refine row2 (fun y : Shape.Idx S2x128 => com (Zin (xin arg0 harg0 x0) (y 0).val) (y 1)) _ 0 (by decide) inb_S2x128_S1x128_0_0 (fun l => ?_)
      exact com_apply (k0_pay49 (F := Ideal) (xin arg0 harg0 x0)) l
    exact absurd hp List.not_mem_nil

end Cert.Val

end
-- ==== Proof.Val.Tables.lean ====
/- The batch entries' products and tables in the run's own terms. -/
module

public import proofs.«01_k».proof.Proof.Val.OutSmall

@[expose] public section

set_option maxRecDepth 16384

noncomputable section

namespace Cert.Val

open Idealize.ShloMosaic Cert.KernelIdeal Cert.KernelIdeal.Gen Cert.KernelIdeal.Body

variable (c : Dev nD) (arg0 : Memref sig .tc .vmem S17x2x128 .bf16) (harg0 : arg0.IsWhole) (x0 : Vec Ideal S17x2x128 .bf16)

/-- The product of the tables of a batch entry. -/
def yOf (z : FVec Ideal S17x128 .f32) : FVec Ideal S256x512 .f32 := dotY (mulA (vP z) (vQ z)) (mulB (vP z) (vQ z))

/-- The direct run's scaled usages of batch entry 0. -/
theorem fast_y0 : k0_pay79 (F := Ideal) (runFast.sl.r_11 c arg0 harg0 x0) (runFast.sl.r_12 c arg0 harg0 x0) (runFast.sl.r_13 c arg0 harg0 x0) (runFast.sl.r_15 c arg0 harg0 x0)
    = yOf (k0_pay49 (F := Ideal) (xin arg0 harg0 x0)) :=
  y0_eq (vP (k0_pay49 (F := Ideal) (xin arg0 harg0 x0))) (vQ (k0_pay49 (F := Ideal) (xin arg0 harg0 x0)))

/-- The log-domain run's scaled usages of batch entry 0. -/
theorem slow_y0 : k0_pay79 (F := Ideal) (runSlow.sl.r_11 c arg0 harg0 x0) (runSlow.sl.r_12 c arg0 harg0 x0) (runSlow.sl.r_13 c arg0 harg0 x0) (runSlow.sl.r_15 c arg0 harg0 x0)
    = yOf (k0_pay49 (F := Ideal) (xin arg0 harg0 x0)) :=
  y0_eq (vP (k0_pay49 (F := Ideal) (xin arg0 harg0 x0))) (vQ (k0_pay49 (F := Ideal) (xin arg0 harg0 x0)))

/-- The direct run's scaled usages of batch entry 1. -/
theorem fast_y1 : k0_pay114 (F := Ideal) (runFast.sl.r_18 c arg0 harg0 x0) (runFast.sl.r_19 c arg0 harg0 x0) (runFast.sl.r_24 c arg0 harg0 x0) (runFast.sl.r_25 c arg0 harg0 x0) (runFast.sl.r_26 c arg0 harg0 x0) (runFast.sl.r_27 c arg0 harg0 x0) (runFast.sl.r_28 c arg0 harg0 x0)
    = yOf (k0_pay50 (F := Ideal) (xin arg0 harg0 x0)) :=
  y1_eq (vP (k0_pay50 (F := Ideal) (xin arg0 harg0 x0))) (vQ (k0_pay50 (F := Ideal) (xin arg0 harg0 x0)))

/-- The log-domain run's scaled usages of batch entry 1. -/
theorem slow_y1 : k0_pay114 (F := Ideal) (runSlow.sl.r_18 c arg0 harg0 x0) (runSlow.sl.r_19 c arg0 harg0 x0) (runSlow.sl.r_24 c arg0 harg0 x0) (runSlow.sl.r_25 c arg0 harg0 x0) (runSlow.sl.r_26 c arg0 harg0 x0) (runSlow.sl.r_27 c arg0 harg0 x0) (runSlow.sl.r_28 c arg0 harg0 x0)
    = yOf (k0_pay50 (F := Ideal) (xin arg0 harg0 x0)) :=
  y1_eq (vP (k0_pay50 (F := Ideal) (xin arg0 harg0 x0))) (vQ (k0_pay50 (F := Ideal) (xin arg0 harg0 x0)))

/-- The direct run's logarithms of batch entry 1. -/
theorem fast_log1 : runFast.sl.r_29 c arg0 harg0 x0 = logY (yOf (k0_pay50 (F := Ideal) (xin arg0 harg0 x0))) :=
  (pay115_eq _ _ _ _ _ _ _).trans (congrArg logY (fast_y1 c arg0 harg0 x0))

/-- The log-domain run's logarithms of batch entry 1. -/
theorem slow_log1 : runSlow.sl.r_29 c arg0 harg0 x0 = logY (yOf (k0_pay50 (F := Ideal) (xin arg0 harg0 x0))) :=
  (pay115_eq _ _ _ _ _ _ _).trans (congrArg logY (slow_y1 c arg0 harg0 x0))

/-- The scratch tables of the log-domain path. -/
def tabA (z : FVec Ideal S17x128 .f32) : FVec Ideal S256x128 .f32 := shapeCast S256x128 (addA (vLP z) (vLQ z)) shapeCasts_S256x128_S256x128
/-- The second scratch table of the log-domain path. -/
def tabB (z : FVec Ideal S17x128 .f32) : FVec Ideal S128x512 .f32 :=
  shapeCast S128x512 (transpose S128x512 [1, 0] (addB (vLP z) (vLQ z)) transposes_S512x128_p1_0_S128x512) shapeCasts_S128x512_S128x512

/-- The scratch tables hold the tables of sums. -/
theorem holds (z : FVec Ideal S17x128 .f32) : Holds z (tabA z) (tabB z) := by
  constructor
  · intro m s
    rw [← addA_apply]
    pointwise [tabA]
  · intro s i
    rw [← addB_apply]
    pointwise [tabB]

/-- What the log-domain run stores in scratch array 1 for batch entry 0. -/
theorem slow_A0 : runSlow.sl.v635 c arg0 harg0 x0 = tabA (k0_pay49 (F := Ideal) (xin arg0 harg0 x0)) := rfl
/-- What the log-domain run stores in scratch array 1 for batch entry 1. -/
theorem slow_A1 : runSlow.sl.v811 c arg0 harg0 x0 = tabA (k0_pay50 (F := Ideal) (xin arg0 harg0 x0)) := rfl
/-- What the log-domain run stores in scratch array 0 for batch entry 0. -/
theorem slow_B0 : k0_pay31 (F := Ideal) (runSlow.sl.r_6 c arg0 harg0 x0) (runSlow.sl.v712 c arg0 harg0 x0) (runSlow.sl.v714 c arg0 harg0 x0) = tabB (k0_pay49 (F := Ideal) (xin arg0 harg0 x0)) := rfl
/-- What the log-domain run stores in scratch array 0 for batch entry 1. -/
theorem slow_B1 : k0_pay43 (F := Ideal) (runSlow.sl.r_20 c arg0 harg0 x0) (runSlow.sl.r_21 c arg0 harg0 x0) (runSlow.sl.v860 c arg0 harg0 x0) (runSlow.sl.v862 c arg0 harg0 x0) = tabB (k0_pay50 (F := Ideal) (xin arg0 harg0 x0)) := rfl

end Cert.Val

end
-- ==== Proof.Val.OutUsage.lean ====
/- What the kernel's stores leave in its outputs, over the reals: the logarithms of the usages. -/
module

public import proofs.«01_k».proof.Proof.Val.Tables
public import Idealize.ShloMosaic.Lib.VecWindow

@[expose] public section

set_option maxRecDepth 16384

noncomputable section

namespace Cert.Val

open Idealize.ShloMosaic Cert.KernelIdeal Cert.KernelIdeal.Gen Cert.KernelIdeal.Body

/-- A block of 128 columns of a batch entry's logarithms, at its strided place. -/
theorem block_piece (Z : ℕ → FVec Ideal S17x128 .f32) (b n : ℕ) (hb : b < 2) (hn : n < 4) (w : FVec Ideal S256x128 .f32)
    (hw : ∀ (m : Fin 256) (l : Fin 128), w (ix2 m l) = lu (U (Z b)) (V (Z b)) ((n * 256 + m.val) * 128 + l.val))
    (o : ℕ) (ho : o = n * 512 + b)
    (inb : ∀ a : Fin S2048x128.rank, S256x128.size a = 0 ∨ (![o, 0] : Fin 2 → ℕ) a + (![2, 1] : Fin 2 → ℕ) a * (S256x128.size a - 1) < S2048x128.size a) (sp)
    (x : Shape.Idx S256x128) :
    w x = gLU Z ((⟨(⟨![o, 0], S256x128.size, ![2, 1], inb⟩ : LoadRect S2048x128), sp⟩ : Rect S2048x128).emb x) := by
  obtain ⟨m, l, rfl⟩ : ∃ (m : Fin 256) (l : Fin 128), x = ix2 m l := ⟨x 0, x 1, by funext a; fin_cases a <;> rfl⟩
  have e0 : (((⟨(⟨![o, 0], S256x128.size, ![2, 1], inb⟩ : LoadRect S2048x128), sp⟩ : Rect S2048x128).emb (ix2 m l)) 0).val = o + 2 * m.val := rfl
  have e1 : (((⟨(⟨![o, 0], S256x128.size, ![2, 1], inb⟩ : LoadRect S2048x128), sp⟩ : Rect S2048x128).emb (ix2 m l)) 1).val = l.val := by
    show 0 + 1 * l.val = l.val; omega
  rw [hw]
  exact (gLU_of Z _ b _ (by rw [e0]; omega) (by rw [e0, e1]; congr 2; omega)).symm

/-- Block 0 of a batch entry's logarithms. -/
theorem slice0 (z : FVec Ideal S17x128 .f32) (m : Fin 256) (l : Fin 128) :
    extractStridedSlice S256x128 ![0, 0] (logY (yOf z)) slices_S256x512_o0_0_S256x128 (ix2 m l) = lu (U z) (V z) ((0 * 256 + m.val) * 128 + l.val) := by
  have e : ∀ w : FVec Ideal S256x512 .f32, extractStridedSlice S256x128 ![0, 0] w slices_S256x512_o0_0_S256x128 (ix2 m l)
      = w (ix2 m ⟨0 * 128 + l.val, by omega⟩) := by
    intro w
    pointwise
  rw [e]
  exact logY_apply z m 0 l _ rfl

/-- Block 1 of a batch entry's logarithms. -/
theorem slice1 (z : FVec Ideal S17x128 .f32) (m : Fin 256) (l : Fin 128) :
    extractStridedSlice S256x128 ![0, 128] (logY (yOf z)) slices_S256x512_o0_128_S256x128 (ix2 m l) = lu (U z) (V z) ((1 * 256 + m.val) * 128 + l.val) := by
  have e : ∀ w : FVec Ideal S256x512 .f32, extractStridedSlice S256x128 ![0, 128] w slices_S256x512_o0_128_S256x128 (ix2 m l)
      = w (ix2 m ⟨1 * 128 + l.val, by omega⟩) := by
    intro w
    pointwise
  rw [e]
  exact logY_apply z m 1 l _ rfl

/-- Block 2 of a batch entry's logarithms. -/
theorem slice2 (z : FVec Ideal S17x128 .f32) (m : Fin 256) (l : Fin 128) :
    extractStridedSlice S256x128 ![0, 256] (logY (yOf z)) slices_S256x512_o0_256_S256x128 (ix2 m l) = lu (U z) (V z) ((2 * 256 + m.val) * 128 + l.val) := by
  have e : ∀ w : FVec Ideal S256x512 .f32, extractStridedSlice S256x128 ![0, 256] w slices_S256x512_o0_256_S256x128 (ix2 m l)
      = w (ix2 m ⟨2 * 128 + l.val, by omega⟩) := by
    intro w
    pointwise
  rw [e]
  exact logY_apply z m 2 l _ rfl

/-- Block 3 of a batch entry's logarithms. -/
theorem slice3 (z : FVec Ideal S17x128 .f32) (m : Fin 256) (l : Fin 128) :
    extractStridedSlice S256x128 ![0, 384] (logY (yOf z)) slices_S256x512_o0_384_S256x128 (ix2 m l) = lu (U z) (V z) ((3 * 256 + m.val) * 128 + l.val) := by
  have e : ∀ w : FVec Ideal S256x512 .f32, extractStridedSlice S256x128 ![0, 384] w slices_S256x512_o0_384_S256x128 (ix2 m l)
      = w (ix2 m ⟨3 * 128 + l.val, by omega⟩) := by
    intro w
    pointwise
  rw [e]
  exact logY_apply z m 3 l _ rfl

variable (c : Dev nD) (arg0 : Memref sig .tc .vmem S17x2x128 .bf16) (harg0 : arg0.IsWhole) (arg1 : Memref sig .tc .vmem S2x128 .i32) (harg1 : arg1.IsWhole)
  (arg2 : Memref sig .tc .vmem S2x128 .f32) (harg2 : arg2.IsWhole) (arg3 : Memref sig .tc .vmem S2x128 .f32) (harg3 : arg3.IsWhole)
  (arg4 : Memref sig .tc .vmem S2048x128 .f32) (harg4 : arg4.IsWhole) (arg5 : Memref sig .tc .smem S2 .f32) (harg5 : arg5.IsWhole)
  (arg6 : Memref sig .tc .vmem S128x512 .f32) (harg6 : arg6.IsWhole) (arg7 : Memref sig .tc .vmem S256x128 .f32) (harg7 : arg7.IsWhole)
  (x0 : Vec Ideal S17x2x128 .bf16)

/-- The eight blocks hold the logarithms of the usages. -/
theorem eight_pieces (Z : ℕ → FVec Ideal S17x128 .f32) (w0 w1 w2 w3 w4 w5 w6 w7 : FVec Ideal S256x128 .f32)
    (h0 : ∀ (m : Fin 256) (l : Fin 128), w0 (ix2 m l) = lu (U (Z 1)) (V (Z 1)) ((3 * 256 + m.val) * 128 + l.val)) (h1 : ∀ (m : Fin 256) (l : Fin 128), w1 (ix2 m l) = lu (U (Z 1)) (V (Z 1)) ((2 * 256 + m.val) * 128 + l.val)) (h2 : ∀ (m : Fin 256) (l : Fin 128), w2 (ix2 m l) = lu (U (Z 1)) (V (Z 1)) ((1 * 256 + m.val) * 128 + l.val)) (h3 : ∀ (m : Fin 256) (l : Fin 128), w3 (ix2 m l) = lu (U (Z 1)) (V (Z 1)) ((0 * 256 + m.val) * 128 + l.val)) (h4 : ∀ (m : Fin 256) (l : Fin 128), w4 (ix2 m l) = lu (U (Z 0)) (V (Z 0)) ((3 * 256 + m.val) * 128 + l.val)) (h5 : ∀ (m : Fin 256) (l : Fin 128), w5 (ix2 m l) = lu (U (Z 0)) (V (Z 0)) ((2 * 256 + m.val) * 128 + l.val)) (h6 : ∀ (m : Fin 256) (l : Fin 128), w6 (ix2 m l) = lu (U (Z 0)) (V (Z 0)) ((1 * 256 + m.val) * 128 + l.val)) (h7 : ∀ (m : Fin 256) (l : Fin 128), w7 (ix2 m l) = lu (U (Z 0)) (V (Z 0)) ((0 * 256 + m.val) * 128 + l.val)) :
    ∀ p ∈ ([⟨(⟨(⟨![1537, 0], S256x128.size, ![2, 1], inb_S2048x128_S256x128_1537_0_s_2_1⟩ : LoadRect S2048x128), spos_2_1⟩ : Rect S2048x128), w0⟩, ⟨(⟨(⟨![1025, 0], S256x128.size, ![2, 1], inb_S2048x128_S256x128_1025_0_s_2_1⟩ : LoadRect S2048x128), spos_2_1⟩ : Rect S2048x128), w1⟩, ⟨(⟨(⟨![513, 0], S256x128.size, ![2, 1], inb_S2048x128_S256x128_513_0_s_2_1⟩ : LoadRect S2048x128), spos_2_1⟩ : Rect S2048x128), w2⟩, ⟨(⟨(⟨![1, 0], S256x128.size, ![2, 1], inb_S2048x128_S256x128_1_0_s_2_1⟩ : LoadRect S2048x128), spos_2_1⟩ : Rect S2048x128), w3⟩, ⟨(⟨(⟨![1536, 0], S256x128.size, ![2, 1], inb_S2048x128_S256x128_1536_0_s_2_1⟩ : LoadRect S2048x128), spos_2_1⟩ : Rect S2048x128), w4⟩, ⟨(⟨(⟨![1024, 0], S256x128.size, ![2, 1], inb_S2048x128_S256x128_1024_0_s_2_1⟩ : LoadRect S2048x128), spos_2_1⟩ : Rect S2048x128), w5⟩, ⟨(⟨(⟨![512, 0], S256x128.size, ![2, 1], inb_S2048x128_S256x128_512_0_s_2_1⟩ : LoadRect S2048x128), spos_2_1⟩ : Rect S2048x128), w6⟩, ⟨(⟨(⟨![0, 0], S256x128.size, ![2, 1], inb_S2048x128_S256x128_0_0_s_2_1⟩ : LoadRect S2048x128), spos_2_1⟩ : Rect S2048x128), w7⟩] : List (View.Piece (Elt Ideal) S2048x128 .f32)), ∀ x, p.2 x = gLU Z (p.1.emb x) := by
  intro p hp
  rcases List.mem_cons.1 hp with rfl | hp
  · exact block_piece Z 1 3 (by omega) (by omega) w0 h0 1537 rfl inb_S2048x128_S256x128_1537_0_s_2_1 spos_2_1
  rcases List.mem_cons.1 hp with rfl | hp
  · exact block_piece Z 1 2 (by omega) (by omega) w1 h1 1025 rfl inb_S2048x128_S256x128_1025_0_s_2_1 spos_2_1
  rcases List.mem_cons.1 hp with rfl | hp
  · exact block_piece Z 1 1 (by omega) (by omega) w2 h2 513 rfl inb_S2048x128_S256x128_513_0_s_2_1 spos_2_1
  rcases List.mem_cons.1 hp with rfl | hp
  · exact block_piece Z 1 0 (by omega) (by omega) w3 h3 1 rfl inb_S2048x128_S256x128_1_0_s_2_1 spos_2_1
  rcases List.mem_cons.1 hp with rfl | hp
  · exact block_piece Z 0 3 (by omega) (by omega) w4 h4 1536 rfl inb_S2048x128_S256x128_1536_0_s_2_1 spos_2_1
  rcases List.mem_cons.1 hp with rfl | hp
  · exact block_piece Z 0 2 (by omega) (by omega) w5 h5 1024 rfl inb_S2048x128_S256x128_1024_0_s_2_1 spos_2_1
  rcases List.mem_cons.1 hp with rfl | hp
  · exact block_piece Z 0 1 (by omega) (by omega) w6 h6 512 rfl inb_S2048x128_S256x128_512_0_s_2_1 spos_2_1
  rcases List.mem_cons.1 hp with rfl | hp
  · exact block_piece Z 0 0 (by omega) (by omega) w7 h7 0 rfl inb_S2048x128_S256x128_0_0_s_2_1 spos_2_1
  exact absurd hp List.not_mem_nil

/-- The direct run's logarithms of batch entry 0. -/
theorem fast_log0 : k0_pay80 (F := Ideal) (runFast.sl.r_11 c arg0 harg0 x0) (runFast.sl.r_12 c arg0 harg0 x0) (runFast.sl.r_13 c arg0 harg0 x0) (runFast.sl.r_15 c arg0 harg0 x0)
    = logY (yOf (k0_pay49 (F := Ideal) (xin arg0 harg0 x0))) :=
  (pay80_eq _ _ _ _).trans (congrArg logY (fast_y0 c arg0 harg0 x0))

/-- The direct run's block 0 of batch entry 1 holds the logarithms of its usages. -/
theorem fast_b1_0 (m : Fin 256) (l : Fin 128) : k0_pay2 (F := Ideal) (runFast.sl.r_29 c arg0 harg0 x0) (ix2 m l)
    = lu (U (Zin (xin arg0 harg0 x0) 1)) (V (Zin (xin arg0 harg0 x0) 1)) ((0 * 256 + m.val) * 128 + l.val) := by
  rw [fast_log1]; exact slice0 _ m l

/-- The direct run's block 0 of batch entry 0 holds the logarithms of its usages. -/
theorem fast_b0_0 (m : Fin 256) (l : Fin 128) : k0_pay82 (F := Ideal) (runFast.sl.r_11 c arg0 harg0 x0) (runFast.sl.r_12 c arg0 harg0 x0) (runFast.sl.r_13 c arg0 harg0 x0) (runFast.sl.r_15 c arg0 harg0 x0) (ix2 m l)
    = lu (U (Zin (xin arg0 harg0 x0) 0)) (V (Zin (xin arg0 harg0 x0) 0)) ((0 * 256 + m.val) * 128 + l.val) := by
  unfold k0_pay82
  rw [fast_log0]; exact slice0 _ m l

/-- The direct run's block 1 of batch entry 1 holds the logarithms of its usages. -/
theorem fast_b1_1 (m : Fin 256) (l : Fin 128) : k0_pay3 (F := Ideal) (runFast.sl.r_29 c arg0 harg0 x0) (ix2 m l)
    = lu (U (Zin (xin arg0 harg0 x0) 1)) (V (Zin (xin arg0 harg0 x0) 1)) ((1 * 256 + m.val) * 128 + l.val) := by
  rw [fast_log1]; exact slice1 _ m l

/-- The direct run's block 1 of batch entry 0 holds the logarithms of its usages. -/
theorem fast_b0_1 (m : Fin 256) (l : Fin 128) : k0_pay83 (F := Ideal) (runFast.sl.r_11 c arg0 harg0 x0) (runFast.sl.r_12 c arg0 harg0 x0) (runFast.sl.r_13 c arg0 harg0 x0) (runFast.sl.r_15 c arg0 harg0 x0) (ix2 m l)
    = lu (U (Zin (xin arg0 harg0 x0) 0)) (V (Zin (xin arg0 harg0 x0) 0)) ((1 * 256 + m.val) * 128 + l.val) := by
  unfold k0_pay83
  rw [fast_log0]; exact slice1 _ m l

/-- The direct run's block 2 of batch entry 1 holds the logarithms of its usages. -/
theorem fast_b1_2 (m : Fin 256) (l : Fin 128) : k0_pay4 (F := Ideal) (runFast.sl.r_29 c arg0 harg0 x0) (ix2 m l)
    = lu (U (Zin (xin arg0 harg0 x0) 1)) (V (Zin (xin arg0 harg0 x0) 1)) ((2 * 256 + m.val) * 128 + l.val) := by
  rw [fast_log1]; exact slice2 _ m l

/-- The direct run's block 2 of batch entry 0 holds the logarithms of its usages. -/
theorem fast_b0_2 (m : Fin 256) (l : Fin 128) : k0_pay84 (F := Ideal) (runFast.sl.r_11 c arg0 harg0 x0) (runFast.sl.r_12 c arg0 harg0 x0) (runFast.sl.r_13 c arg0 harg0 x0) (runFast.sl.r_15 c arg0 harg0 x0) (ix2 m l)
    = lu (U (Zin (xin arg0 harg0 x0) 0)) (V (Zin (xin arg0 harg0 x0) 0)) ((2 * 256 + m.val) * 128 + l.val) := by
  unfold k0_pay84
  rw [fast_log0]; exact slice2 _ m l

/-- The direct run's block 3 of batch entry 1 holds the logarithms of its usages. -/
theorem fast_b1_3 (m : Fin 256) (l : Fin 128) : k0_pay5 (F := Ideal) (runFast.sl.r_29 c arg0 harg0 x0) (ix2 m l)
    = lu (U (Zin (xin arg0 harg0 x0) 1)) (V (Zin (xin arg0 harg0 x0) 1)) ((3 * 256 + m.val) * 128 + l.val) := by
  rw [fast_log1]; exact slice3 _ m l

/-- The direct run's block 3 of batch entry 0 holds the logarithms of its usages. -/
theorem fast_b0_3 (m : Fin 256) (l : Fin 128) : k0_pay85 (F := Ideal) (runFast.sl.r_11 c arg0 harg0 x0) (runFast.sl.r_12 c arg0 harg0 x0) (runFast.sl.r_13 c arg0 harg0 x0) (runFast.sl.r_15 c arg0 harg0 x0) (ix2 m l)
    = lu (U (Zin (xin arg0 harg0 x0) 0)) (V (Zin (xin arg0 harg0 x0) 0)) ((3 * 256 + m.val) * 128 + l.val) := by
  unfold k0_pay85
  rw [fast_log0]; exact slice3 _ m l

/-- The log-domain run's logarithms of batch entry 0. -/
theorem slow_log0 : k0_pay80 (F := Ideal) (runSlow.sl.r_11 c arg0 harg0 x0) (runSlow.sl.r_12 c arg0 harg0 x0) (runSlow.sl.r_13 c arg0 harg0 x0) (runSlow.sl.r_15 c arg0 harg0 x0)
    = logY (yOf (k0_pay49 (F := Ideal) (xin arg0 harg0 x0))) :=
  (pay80_eq _ _ _ _).trans (congrArg logY (slow_y0 c arg0 harg0 x0))

/-- The log-domain run's block 0 of batch entry 1 holds the logarithms of its usages. -/
theorem slow_b1_0 (m : Fin 256) (l : Fin 128) : k0_pay2 (F := Ideal) (runSlow.sl.r_29 c arg0 harg0 x0) (ix2 m l)
    = lu (U (Zin (xin arg0 harg0 x0) 1)) (V (Zin (xin arg0 harg0 x0) 1)) ((0 * 256 + m.val) * 128 + l.val) := by
  rw [slow_log1]; exact slice0 _ m l

/-- The log-domain run's block 0 of batch entry 0 holds the logarithms of its usages. -/
theorem slow_b0_0 (m : Fin 256) (l : Fin 128) : k0_pay82 (F := Ideal) (runSlow.sl.r_11 c arg0 harg0 x0) (runSlow.sl.r_12 c arg0 harg0 x0) (runSlow.sl.r_13 c arg0 harg0 x0) (runSlow.sl.r_15 c arg0 harg0 x0) (ix2 m l)
    = lu (U (Zin (xin arg0 harg0 x0) 0)) (V (Zin (xin arg0 harg0 x0) 0)) ((0 * 256 + m.val) * 128 + l.val) := by
  unfold k0_pay82
  rw [slow_log0]; exact slice0 _ m l

/-- The log-domain run's block 1 of batch entry 1 holds the logarithms of its usages. -/
theorem slow_b1_1 (m : Fin 256) (l : Fin 128) : k0_pay3 (F := Ideal) (runSlow.sl.r_29 c arg0 harg0 x0) (ix2 m l)
    = lu (U (Zin (xin arg0 harg0 x0) 1)) (V (Zin (xin arg0 harg0 x0) 1)) ((1 * 256 + m.val) * 128 + l.val) := by
  rw [slow_log1]; exact slice1 _ m l

/-- The log-domain run's block 1 of batch entry 0 holds the logarithms of its usages. -/
theorem slow_b0_1 (m : Fin 256) (l : Fin 128) : k0_pay83 (F := Ideal) (runSlow.sl.r_11 c arg0 harg0 x0) (runSlow.sl.r_12 c arg0 harg0 x0) (runSlow.sl.r_13 c arg0 harg0 x0) (runSlow.sl.r_15 c arg0 harg0 x0) (ix2 m l)
    = lu (U (Zin (xin arg0 harg0 x0) 0)) (V (Zin (xin arg0 harg0 x0) 0)) ((1 * 256 + m.val) * 128 + l.val) := by
  unfold k0_pay83
  rw [slow_log0]; exact slice1 _ m l

/-- The log-domain run's block 2 of batch entry 1 holds the logarithms of its usages. -/
theorem slow_b1_2 (m : Fin 256) (l : Fin 128) : k0_pay4 (F := Ideal) (runSlow.sl.r_29 c arg0 harg0 x0) (ix2 m l)
    = lu (U (Zin (xin arg0 harg0 x0) 1)) (V (Zin (xin arg0 harg0 x0) 1)) ((2 * 256 + m.val) * 128 + l.val) := by
  rw [slow_log1]; exact slice2 _ m l

/-- The log-domain run's block 2 of batch entry 0 holds the logarithms of its usages. -/
theorem slow_b0_2 (m : Fin 256) (l : Fin 128) : k0_pay84 (F := Ideal) (runSlow.sl.r_11 c arg0 harg0 x0) (runSlow.sl.r_12 c arg0 harg0 x0) (runSlow.sl.r_13 c arg0 harg0 x0) (runSlow.sl.r_15 c arg0 harg0 x0) (ix2 m l)
    = lu (U (Zin (xin arg0 harg0 x0) 0)) (V (Zin (xin arg0 harg0 x0) 0)) ((2 * 256 + m.val) * 128 + l.val) := by
  unfold k0_pay84
  rw [slow_log0]; exact slice2 _ m l

/-- The log-domain run's block 3 of batch entry 1 holds the logarithms of its usages. -/
theorem slow_b1_3 (m : Fin 256) (l : Fin 128) : k0_pay5 (F := Ideal) (runSlow.sl.r_29 c arg0 harg0 x0) (ix2 m l)
    = lu (U (Zin (xin arg0 harg0 x0) 1)) (V (Zin (xin arg0 harg0 x0) 1)) ((3 * 256 + m.val) * 128 + l.val) := by
  rw [slow_log1]; exact slice3 _ m l

/-- The log-domain run's block 3 of batch entry 0 holds the logarithms of its usages. -/
theorem slow_b0_3 (m : Fin 256) (l : Fin 128) : k0_pay85 (F := Ideal) (runSlow.sl.r_11 c arg0 harg0 x0) (runSlow.sl.r_12 c arg0 harg0 x0) (runSlow.sl.r_13 c arg0 harg0 x0) (runSlow.sl.r_15 c arg0 harg0 x0) (ix2 m l)
    = lu (U (Zin (xin arg0 harg0 x0) 0)) (V (Zin (xin arg0 harg0 x0) 0)) ((3 * 256 + m.val) * 128 + l.val) := by
  unfold k0_pay85
  rw [slow_log0]; exact slice3 _ m l

/-- The kernel's usage output holds the logarithms of the usages, on either path. -/
theorem out4_eq (y : Shape.Idx S2048x128) : out4 (F := Ideal) c arg0 harg0 arg1 harg1 arg2 harg2 arg3 harg3 arg4 harg4 arg5 harg5 arg6 harg6 arg7 harg7 x0 y = gLU (Zin (xin arg0 harg0 x0)) y := by
  unfold out4
  split
  · rename_i hc
    refine View.read_writes_apply_of_pieces (Val := Elt Ideal) _ _ (gLU (Zin (xin arg0 harg0 x0))) _ ?_ y (coverSlow4 c arg0 harg0 arg1 harg1 arg2 harg2 arg3 harg3 arg4 harg4 arg5 harg5 arg6 harg6 arg7 harg7 x0 hc y)
    unfold runSlow; dsimp only
    intro p hp
    rcases List.mem_append.1 hp with hp | hp
    · refine (state2 c arg0 harg0 arg1 harg1 arg2 harg2 arg3 harg3 arg4 harg4 arg5 harg5 arg6 harg6 arg7 harg7 _ _ _ _ (Zin (xin arg0 harg0 x0)) _ _ (holds _) _ _ ?_ ?_ k0_t2_loop.trips le_rfl).2 p hp
      · exact (View.read_writes_full _ _ _ _ _).trans (slow_B1 c arg0 harg0 x0)
      · exact (View.read_writes_full _ _ _ _ _).trans (slow_A1 c arg0 harg0 x0)
    rcases List.mem_append.1 hp with hp | hp
    · refine (state1 c arg0 harg0 arg1 harg1 arg2 harg2 arg3 harg3 arg4 harg4 arg5 harg5 arg6 harg6 arg7 harg7 _ _ _ _ _ (Zin (xin arg0 harg0 x0)) _ _ (holds _) _ _ ?_ ?_ k0_t1_loop.trips le_rfl).2 p hp
      · exact (View.read_writes_full _ _ _ _ _).trans (slow_B0 c arg0 harg0 x0)
      · exact (View.read_writes_full _ _ _ _ _).trans (slow_A0 c arg0 harg0 x0)
    exact eight_pieces (Zin (xin arg0 harg0 x0)) _ _ _ _ _ _ _ _ (slow_b1_3 c arg0 harg0 x0) (slow_b1_2 c arg0 harg0 x0) (slow_b1_1 c arg0 harg0 x0) (slow_b1_0 c arg0 harg0 x0) (slow_b0_3 c arg0 harg0 x0) (slow_b0_2 c arg0 harg0 x0) (slow_b0_1 c arg0 harg0 x0) (slow_b0_0 c arg0 harg0 x0) p hp
  · rename_i hc
    refine View.read_writes_apply_of_pieces (Val := Elt Ideal) _ _ (gLU (Zin (xin arg0 harg0 x0))) _ ?_ y (coverFast4 c arg0 harg0 arg1 harg1 arg2 harg2 arg3 harg3 arg4 harg4 arg5 harg5 arg6 harg6 arg7 harg7 x0 hc y)
    unfold runFast; dsimp only
    exact eight_pieces (Zin (xin arg0 harg0 x0)) _ _ _ _ _ _ _ _ (fast_b1_3 c arg0 harg0 x0) (fast_b1_2 c arg0 harg0 x0) (fast_b1_1 c arg0 harg0 x0) (fast_b1_0 c arg0 harg0 x0) (fast_b0_3 c arg0 harg0 x0) (fast_b0_2 c arg0 harg0 x0) (fast_b0_1 c arg0 harg0 x0) (fast_b0_0 c arg0 harg0 x0)

end Cert.Val

end
-- ==== Proof.Val.RefTerms.lean ====
/- The reference's results, stage by stage: the run's terms, folded. -/
module

public import proofs.«01_k».proof.Proof.Gen.ReferenceIdeal.Run
public import proofs.«01_k».proof.Proof.Val.Sums

@[expose] public section

set_option maxRecDepth 65536

noncomputable section

namespace Cert.Val.Ref

open Idealize.ShloMosaic Cert.ReferenceIdeal Cert.ReferenceIdeal.Gen Idealize.ShloMosaic.TcCoe Idealize.SL.Sem

/-- The inputs as the reference computes with them. -/
def vz (x : FVec Ideal S2x128x17 .bf16) : FVec Ideal S2x128x17 .f32 := extf .f32 x bitsLt_bf16_f32

/-- A number everywhere on the inputs' shape. -/
def splat (w : BitVec 32) : FVec Ideal S2x128x17 .f32 := broadcastInDim S2x128x17 ![] bcast_S_S2x128x17 (constant S_ .f32 w)

/-- Which inputs are positive. -/
def pos (x : FVec Ideal S2x128x17 .bf16) : IVec S2x128x17 1 := cmpf .ogt (vz x) (splat 0x00000000#32)

/-- Sixteen less the channel. -/
def shifts : IVec S17 32 := subi (broadcastInDim S17 ![] bcast_S_S17 (constantI S_ 32 16#32)) (iotaInDim S17 32 0)

/-- The indices. -/
def refIdx (x : FVec Ideal S2x128x17 .bf16) : IVec S2x128 32 :=
  Host.reduce IntOp.addi (muli (extui 32 (pos x) natLt_1_32) (broadcastInDim S2x128x17 ![0, 1, 2] bcast_S1x1x17_S2x128x17_0_1_2 (broadcastInDim S1x1x17 ![2] bcast_S17_S1x1x17_2 (Host.shli (broadcastInDim S17 ![] bcast_S_S17 (constantI S_ 32 1#32)) shifts)))) (constantI S_ 32 0#32) reducesTo_S2x128x17_S2x128_d2 h_S_

/-- The distances to the signs. -/
def refDist (x : FVec Ideal S2x128x17 .bf16) : FVec Ideal S2x128x17 .f32 :=
  subf (vz x) (select (pos x) (splat 0x3F800000#32) (splat 0xBF800000#32))

/-- The mean squared distances. -/
def refCom (x : FVec Ideal S2x128x17 .bf16) : FVec Ideal S2x128 .f32 :=
  Host.divf (Host.reduceAdd (mulf (refDist x) (refDist x)) (constant S_ .f32 0x00000000#32) reducesTo_S2x128x17_S2x128_d2 h_S_) (broadcastInDim S2x128 ![] bcast_S_S2x128 (constant S_ .f32 0x41880000#32))

/-- The softplus. -/
def softplus (b : FVec Ideal S2x128x17 .f32) : FVec Ideal S2x128x17 .f32 :=
  select (cmpf .une (subf b (splat 0x00000000#32)) (subf b (splat 0x00000000#32))) (addf b (splat 0x00000000#32))
    (addf (maximumf b (splat 0x00000000#32)) (Host.log1p (Host.exp (Host.negf (Host.absf (subf b (splat 0x00000000#32)))))))

/-- The logarithm of the sigmoid. -/
def logSigmoid (a : FVec Ideal S2x128x17 .f32) : FVec Ideal S2x128x17 .f32 := Host.negf (softplus (Host.negf a))

/-- The scaled argument. -/
def va (x : FVec Ideal S2x128x17 .bf16) : FVec Ideal S2x128x17 .f32 := mulf (splat 0x40000000#32) (vz x)

/-- The logarithms of the probabilities of the positive signs. -/
def refLp (x : FVec Ideal S2x128x17 .bf16) : FVec Ideal S2x128x17 .f32 := logSigmoid (va x)

/-- The logarithms of the probabilities of the negative signs. -/
def refLq (x : FVec Ideal S2x128x17 .bf16) : FVec Ideal S2x128x17 .f32 := logSigmoid (Host.negf (va x))

/-- The entropies. -/
def refEnt (lp lq : FVec Ideal S2x128x17 .f32) : FVec Ideal S2x128 .f32 :=
  Host.negf (Host.reduceAdd (addf (mulf (Host.exp lp) lp) (mulf (Host.exp lq) lq)) (constant S_ .f32 0x00000000#32) reducesTo_S2x128x17_S2x128_d2 h_S_)

/-- The codes' bits. -/
def bits : FVec Ideal S17x131072 .f32 :=
  sitofp .f32 (andi (Host.shrsi (broadcastInDim S17x131072 ![0, 1] bcast_S1x131072_S17x131072_0_1 (broadcastInDim S1x131072 ![1] bcast_S131072_S1x131072_1 (iotaInDim S131072 32 0)))
    (broadcastInDim S17x131072 ![0, 1] bcast_S17x1_S17x131072_0_1 (broadcastInDim S17x1 ![0] bcast_S17_S17x1_0 shifts)))
    (broadcastInDim S17x131072 ![] bcast_S_S17x131072 (constantI S_ 32 1#32)))

/-- One minus the codes' bits. -/
def unbits : FVec Ideal S17x131072 .f32 :=
  subf (broadcastInDim S17x131072 ![] bcast_S_S17x131072 (constant S_ .f32 0x3F800000#32)) bits

/-- The logarithms of the codes' probabilities. -/
def refS (lp lq : FVec Ideal S2x128x17 .f32) : FVec Ideal S2x128x131072 .f32 :=
  Host.dotGeneral (φ₁ := .f32) (φ₂ := .f32) dot_S2x128x34_S34x131072_S2x128x131072_2_0_01_1_n_n (some .fp32) (Value.fn_main_v31 (F := Ideal) lp lq : FVec Ideal S2x128x34 .f32) (Value.fn_main_v47 (F := Ideal) bits unbits : FVec Ideal S34x131072 .f32)

/-- Their maxima over the positions. -/
def refMax (s : FVec Ideal S2x128x131072 .f32) : FVec Ideal S2x131072 .f32 :=
  Host.reduce FloatOps.maximumf s (constant S_ .f32 0xFF800000#32) reducesTo_S2x128x131072_S2x131072_d1 h_S_

/-- The maxima, zero where they are not finite. -/
def refTop (t : FVec Ideal S2x131072 .f32) : FVec Ideal S2x131072 .f32 :=
  select (cmpf .olt (Host.absf t) (broadcastInDim S2x131072 ![] bcast_S_S2x131072 (constant S_ .f32 0x7F800000#32))) t (broadcastInDim S2x131072 ![] bcast_S_S2x131072 (constant S_ .f32 0x00000000#32))

/-- Seventeen times the logarithm of two. -/
def logTwo : FVec Ideal S_ .f32 := mulf (constant S_ .f32 0x41880000#32) (Host.log (constant S_ .f32 0x40000000#32))

/-- The logarithms of the usages. -/
def refLU (s : FVec Ideal S2x128x131072 .f32) (t : FVec Ideal S2x131072 .f32) : FVec Ideal S2x131072 .f32 :=
  addf (addf (Host.log (Host.reduceAdd (Host.exp (subf s (broadcastInDim S2x128x131072 ![0, 1, 2] bcast_S2x1x131072_S2x128x131072_0_1_2 (broadcastInDim S2x1x131072 ![0, 2] bcast_S2x131072_S2x1x131072_0_2 t)))) (constant S_ .f32 0x00000000#32) reducesTo_S2x128x131072_S2x131072_d1 h_S_)) t)
    (broadcastInDim S2x131072 ![] bcast_S_S2x131072 (subf logTwo (Host.log (constant S_ .f32 0x43000000#32))))

/-- The divergences. -/
def refKL (w : FVec Ideal S2x131072 .f32) : FVec Ideal S2 .f32 :=
  Host.reduceAdd (mulf (Host.exp (subf w (broadcastInDim S2x131072 ![] bcast_S_S2x131072 logTwo))) w) (constant S_ .f32 0x00000000#32) reducesTo_S2x131072_S2_d1 h_S_

/-- The logarithms of the usages, of the inputs. -/
def refUsage (x : FVec Ideal S2x128x17 .bf16) : FVec Ideal S2x131072 .f32 :=
  refLU (refS (refLp x) (refLq x)) (refTop (refMax (refS (refLp x) (refLq x))))

end Cert.Val.Ref

end
-- ==== Proof.Val.RefVal.lean ====
/- The reference's results, entry by entry: they are the specification's numbers. -/
module

public import proofs.«01_k».proof.Proof.Val.RefTerms
public import proofs.«01_k».proof.Proof.Val.Small

@[expose] public section

set_option maxRecDepth 16384

noncomputable section

namespace Cert.Val.Ref

open Idealize.ShloMosaic Cert.ReferenceIdeal Cert.ReferenceIdeal.Gen

/-- A batch entry of the inputs: the channels' rows. -/
def zOf (x : FVec Ideal S2x128x17 .bf16) (b : Fin 2) : FVec Ideal Cert.KernelIdeal.S17x128 .f32 :=
  fun i => (x (ix3 b (i 1) (i 0)) : EReal)

variable (x : FVec Ideal S2x128x17 .bf16) (b : Fin 2) (s : Fin 128)

/-- A batch entry's values, bits by positions, at an index. -/
theorem zOf_apply (k : Fin 17) : zOf x b (ix2 k s) = x (ix3 b s k) := rfl

/-- The host's and the vector unit's left shifts by a channel's amount are the same. -/
theorem shl_host (k : Fin 17) : IntOp.shli ArithUnit.host 1#32 (IntOp.subi 16#32 (BitVec.ofNat 32 k.val))
    = IntOp.shli ArithUnit.vector 1#32 (IntOp.subi 16#32 (BitVec.ofNat 32 k.val)) := by
  revert k; decide

/-- The word of a true proposition. -/
theorem word_pos (p : Prop) [Decidable p] (h : p) : BitVec.setWidth 32 (BitVec.ofBool (decide p)) = 1#32 := by
  rw [decide_eq_true h]; rfl

/-- The word of a false proposition. -/
theorem word_neg (p : Prop) [Decidable p] (h : ¬p) : BitVec.setWidth 32 (BitVec.ofBool (decide p)) = 0#32 := by
  rw [decide_eq_false h]; rfl

/-- The reference's index of a position. -/
theorem refIdx_apply : refIdx x (ix2 b s) = idx (zOf x b) s := by
  pointwise [refIdx, pos, vz, splat, shifts]
  unfold idx
  refine congrArg (fun f => Finset.fold IntOp.addi 0#32 f Finset.univ) (funext fun k => ?_)
  rw [shl_host, zOf_apply]
  by_cases h : (0 : EReal) < x (ix3 b s k)
  · rw [if_pos h]
    exact (congrArg (fun w => IntOp.muli w _) (word_pos _ h)).trans (BitVec.one_mul _)
  · rw [if_neg h]
    exact (congrArg (fun w => IntOp.muli w _) (word_neg _ h)).trans (BitVec.zero_mul)

/-- The reference's distance of a position from its code. -/
theorem refCom_apply : refCom x (ix2 b s) = com (zOf x b) s := by
  pointwise [refCom, refDist, pos, vz, splat]
  rfl

/-- The reference's logarithm of the probability of a positive sign. -/
theorem refLp_apply (k : Fin 17) : refLp x (ix3 b s k) = U (zOf x b) k s := by
  pointwise [refLp, logSigmoid, softplus, va, vz, splat]
  rw [if_neg (fun h => h rfl), Consts.ofBits_2]
  exact ls_ref _

/-- The reference's logarithm of the probability of a negative sign. -/
theorem refLq_apply (k : Fin 17) : refLq x (ix3 b s k) = V (zOf x b) k s := by
  pointwise [refLq, logSigmoid, softplus, va, vz, splat]
  rw [if_neg (fun h => h rfl), Consts.ofBits_2]
  exact ls_ref _

/-- The reference's entropy of a position's signs. -/
theorem refEnt_apply : refEnt (refLp x) (refLq x) (ix2 b s) = ent (zOf x b) s := by
  pointwise [refEnt]
  simp only [refLp_apply, refLq_apply]
  unfold ent
  rw [zero_sub]

/-- Bit `n` of a code's word, as a word. -/
theorem bit_word (j : Fin 131072) (n : ℕ) (hn : n < 17) :
    (BitVec.ofNat 32 j.val).sshiftRight n &&& 1#32 = if j.val.testBit n then 1#32 else 0#32 := by
  apply BitVec.eq_of_getLsbD_eq
  intro i hi
  rw [BitVec.getLsbD_and, BitVec.getLsbD_sshiftRight, BitVec.getLsbD_one]
  rcases Nat.eq_zero_or_pos i with rfl | h
  · have h1 : n + 0 < 32 := by omega
    rw [if_pos h1, BitVec.getLsbD_ofNat]
    have h2 : n < 32 := by omega
    cases hb : j.val.testBit n <;> simp [hb, h2]
  · have h1 : ¬ i = 0 := by omega
    cases hb : j.val.testBit n <;> simp [h1]

/-- The reference's table of the codes' signs. -/
theorem bits_apply (k : Fin 17) (j : Fin 131072) : bits (ix2 k j) = if j.val.testBit (16 - k.val) then (1 : EReal) else 0 := by
  pointwise [bits, shifts]
  have e : IntOp.andi (IntOp.shrsi ArithUnit.host (BitVec.ofNat 32 j.val) (IntOp.subi 16#32 (BitVec.ofNat 32 k.val))) 1#32
      = if j.val.testBit (16 - k.val) then 1#32 else 0#32 := by
    have hk : (IntOp.subi 16#32 (BitVec.ofNat 32 k.val)).toNat = 16 - k.val := by revert k; decide
    unfold IntOp.shrsi
    rw [if_pos (by omega)]
    unfold BitVec.sshiftRight'
    rw [hk]
    exact bit_word j _ (by omega)
  rw [e]
  split
  · show (((1#32 : BitVec 32).toInt : ℝ) : EReal) = 1
    norm_num
  · show (((0#32 : BitVec 32).toInt : ℝ) : EReal) = 0
    norm_num

/-- The reference's logarithm of the probability of a code at a position. -/
theorem refS_apply (j : Fin 131072) : refS (refLp x) (refLq x) (ix3 b s j) = code (U (zOf x b)) (V (zOf x b)) j.val s := by
  pointwise [refS, Value.fn_main_v31, Value.fn_main_v47, unbits]
  simp only [refLp_apply, refLq_apply, bits_apply]
  unfold code
  rw [← Finset.sum_add_distrib]
  refine Finset.sum_congr rfl fun k _ => ?_
  split
  · rw [mul_one, show (1 : EReal) - 1 = 0 by rw [← EReal.coe_one, ← EReal.coe_sub]; simp, mul_zero, add_zero]
  · rw [mul_zero, sub_zero, mul_one, zero_add]

/-- The number the reference takes out of its sum of exponentials is the maximum or zero. -/
theorem refTop_apply (t : FVec Ideal S2x131072 .f32) (j : Fin 131072) :
    refTop t (ix2 b j) = 0 ∨ refTop t (ix2 b j) = t (ix2 b j) := by
  have e : ∃ a : EReal, refTop t (ix2 b j) = if a < Ideal.ofBits FTy.f32 0x7F800000#32 then t (ix2 b j) else 0 := by
    refine ⟨FloatOps.absf (t (ix2 b j)), ?_⟩
    pointwise [refTop]
  obtain ⟨a, e⟩ := e
  rw [e]
  split
  · exact .inr rfl
  · exact .inl rfl

/-- The reference's maximum over the positions. -/
theorem refMax_apply (w : FVec Ideal S2x128x131072 .f32) (j : Fin 131072) :
    refMax w (ix2 b j) = Finset.univ.fold max ⊥ fun s : Fin 128 => w (ix3 b s j) := by
  rw [← Consts.ofBits_bot]
  pointwise [refMax]

/-- The logarithm of two, as the reference counts it for seventeen channels. -/
theorem log_two : Ideal.ofBits FTy.f32 0x41880000#32 * Ideal.log (Ideal.ofBits FTy.f32 0x40000000#32) = ((17 * Real.log 2 : ℝ) : EReal) := by
  rw [Consts.ofBits_17, Consts.ofBits_2, Ideal.log_coe, if_neg (by norm_num), ← EReal.coe_mul]

/-- The reference's logarithm of the usage of a code. -/
theorem refUsage_apply (j : Fin 131072) : refUsage x (ix2 b j) = lu (U (zOf x b)) (V (zOf x b)) j.val := by
  have ht := refTop_apply b (refMax (refS (refLp x) (refLq x))) j
  rw [refMax_apply] at ht
  have e : ∀ (w : FVec Ideal S2x128x131072 .f32) (t : FVec Ideal S2x131072 .f32), refLU w t (ix2 b j)
      = Ideal.log (∑ s : Fin 128, Ideal.exp (w (ix3 b s j) - t (ix2 b j))) + t (ix2 b j)
        + (Ideal.ofBits FTy.f32 0x41880000#32 * Ideal.log (Ideal.ofBits FTy.f32 0x40000000#32)
          - Ideal.log (Ideal.ofBits FTy.f32 0x43000000#32)) := by
    intro w t
    pointwise [refLU, logTwo]
  unfold refUsage
  rw [e, log_two, lse_guard (fun s : Fin 128 => refS (refLp x) (refLq x) (ix3 b s j))
    (fun s => by rw [refS_apply]; exact code_le (U_le _) (V_le _) _ _) _ ht]
  simp only [refS_apply]
  unfold lu usage
  congr 1
  rw [Consts.ofBits_128, Ideal.log_coe, if_neg (by norm_num), ← EReal.coe_sub, show (128 : ℝ) = 2 ^ 7 by norm_num, Real.log_pow]
  congr 1; push_cast; ring

/-- The reference's divergence. -/
theorem refKL_apply : refKL (refUsage x) (ix1 b) = ∑ j : Fin 131072, klt (U (zOf x b)) (V (zOf x b)) j.val := by
  have e : ∀ w : FVec Ideal S2x131072 .f32, refKL w (ix1 b)
      = ∑ j : Fin 131072, Ideal.exp (w (ix2 b j) - Ideal.ofBits FTy.f32 0x41880000#32 * Ideal.log (Ideal.ofBits FTy.f32 0x40000000#32))
        * w (ix2 b j) := by
    intro w
    pointwise [refKL, logTwo]
  rw [e, log_two]
  exact Finset.sum_congr rfl fun j _ => by rw [refUsage_apply]; rfl

end Cert.Val.Ref

end
-- ==== Proof.Val.Input.lean ====
/- What the kernel reads: the host transposes the argument, the region stages the whole of it, and the two batch entries are
   told apart by the parity of their row. -/
module

public import proofs.«01_k».proof.Proof.Val.OutUsage
public import proofs.«01_k».proof.Proof.Val.RefVal
public import Idealize.ShloMosaic.Lib.Pipeline.Value
public import Idealize.ShloMosaic.Lib.Pipeline.ValueKit

@[expose] public section

set_option maxRecDepth 16384

noncomputable section

namespace Cert.Val

open Idealize.ShloMosaic Idealize.ShloMosaic.TcCoe Cert.KernelIdeal Cert.KernelIdeal.Gen Cert.KernelIdeal.Body

variable (m : (ℓ : Loc nD τ sig) → Buf (Elt Ideal) ℓ)

/-- The argument of a device. -/
abbrev argOf (c : Dev nD) : FVec Ideal Cert.ReferenceIdeal.S2x128x17 .bf16 := m ((c : Thread nD τ).loc main_arg0)

/-- The kernel's first load reads its input block. -/
theorem xin_eq (arg0 : Memref sig .tc .vmem S17x2x128 .bf16) (harg0 : arg0.IsWhole) (x0 : Vec Ideal S17x2x128 .bf16) :
    xin arg0 harg0 x0 = x0 := by
  unfold xin
  have hz : (![0, 0, 0] : Fin 3 → ℕ) = fun _ => 0 := funext fun a => by fin_cases a <;> rfl
  rw [View.readAt_eq_ld, harg0.read_unread, View.ld_unit_zero (S := S17x2x128) hz]

/-- The two batch entries of a block, at an index. -/
theorem Zin_apply (x : Vec Ideal S17x2x128 .bf16) (b : Fin 2) (k : Fin 17) (s : Fin 128) :
    Zin x b.val (ix2 k s) = x (ix3 k b s) := by
  match b with
  | ⟨0, _⟩ =>
    show k0_pay49 (F := Ideal) x (ix2 k s) = _
    pointwise [k0_pay49, k0_pay48]
  | ⟨1, _⟩ =>
    show k0_pay50 (F := Ideal) x (ix2 k s) = _
    pointwise [k0_pay50, k0_pay48]

/-- The region finds the argument transposed. -/
theorem V_v0 (c : Dev nD) : Gen.V m c main_v0 = transpose S17x2x128 [2, 0, 1] (argOf m c) transposes_S2x128x17_S17x2x128_2_0_1 := by
  unfold Gen.V V0
  after_results
  try rfl

/-- The input block is the whole transposed argument. -/
theorem iblk_eq (c : Dev nD) (t : Fin cfg0.N) :
    iblk m c 0 t = transpose S17x2x128 [2, 0, 1] (argOf m c) transposes_S2x128x17_S17x2x128_2_0_1 := by
  rw [← V_v0]
  unfold iblk
  have hz' : (fun a => win0_0.index t a * main_v0.ty.shape.size a) = fun _ => 0 := funext fun a => by
    rcases fin_N0 t with rfl; fin_cases a <;> decide
  exact Memref.read_access_unit_zero (Elt Ideal) main_v0 hz' (fun a => by rw [congrFun hz' a]; simp) (Gen.V m c main_v0)

/-- So a batch entry of the block is that batch entry of the argument, bits by positions. -/
theorem Zin_eq (c : Dev nD) (t : Fin cfg0.N) (arg0 : Memref sig .tc .vmem S17x2x128 .bf16) (harg0 : arg0.IsWhole) (b : Fin 2) :
    Zin (xin arg0 harg0 (iblk m c 0 t)) b.val = Ref.zOf (argOf m c) b := by
  funext y
  obtain ⟨k, s, rfl⟩ : ∃ (k : Fin 17) (s : Fin 128), y = ix2 k s := ⟨y 0, y 1, by funext a; fin_cases a <;> rfl⟩
  rw [xin_eq, Zin_apply, iblk_eq, Ref.zOf_apply]
  pointwise

end Cert.Val

end
-- ==== Proof.Val.OutKl.lean ====
/- What the kernel's stores leave in its outputs, over the reals: the divergences. -/
module

public import proofs.«01_k».proof.Proof.Val.OutUsage

@[expose] public section

set_option maxRecDepth 16384

noncomputable section

namespace Cert.Val

open Idealize.ShloMosaic Cert.KernelIdeal Cert.KernelIdeal.Gen Cert.KernelIdeal.Body

/-- The divergence of the usages of a batch entry. -/
def klOf (Z : ℕ → FVec Ideal S17x128 .f32) (y : Shape.Idx S2) : EReal := ∑ j : Fin 131072, klt (U (Z (y 0).val)) (V (Z (y 0).val)) j.val

/-- A number stored at one batch entry's place. -/
theorem one_piece (Z : ℕ → FVec Ideal S17x128 .f32) (w : EReal) (o : ℕ) (hw : w = ∑ j : Fin 131072, klt (U (Z o)) (V (Z o)) j.val)
    (size : Fin 1 → ℕ) (hs : size 0 = 1) (inb : ∀ a : Fin S2.rank, (![o] : Fin 1 → ℕ) a + size a ≤ S2.size a)
    (x : (Rect.unit (s := S2) ![o] size inb).shape.Idx) :
    w = klOf Z ((Rect.unit (s := S2) ![o] size inb).emb x) := by
  have h1 : (x 0).val < size 0 := (x 0).isLt
  have e0 : (((Rect.unit (s := S2) ![o] size inb).emb x) 0).val = o := by
    show o + 1 * (x 0).val = o
    omega
  unfold klOf
  rw [e0, hw]

variable (c : Dev nD) (arg0 : Memref sig .tc .vmem S17x2x128 .bf16) (harg0 : arg0.IsWhole) (arg1 : Memref sig .tc .vmem S2x128 .i32) (harg1 : arg1.IsWhole)
  (arg2 : Memref sig .tc .vmem S2x128 .f32) (harg2 : arg2.IsWhole) (arg3 : Memref sig .tc .vmem S2x128 .f32) (harg3 : arg3.IsWhole)
  (arg4 : Memref sig .tc .vmem S2048x128 .f32) (harg4 : arg4.IsWhole) (arg5 : Memref sig .tc .smem S2 .f32) (harg5 : arg5.IsWhole)
  (arg6 : Memref sig .tc .vmem S128x512 .f32) (harg6 : arg6.IsWhole) (arg7 : Memref sig .tc .vmem S256x128 .f32) (harg7 : arg7.IsWhole)
  (x0 : Vec Ideal S17x2x128 .bf16)

/-- The number the fast path stores first for the second batch entry is its divergence. -/
theorem fast_kl1 : k0_pay1 (F := Ideal) (runFast.sl.r_30 c arg0 harg0 x0) runFast.sl.cst_110
    = ∑ j : Fin 131072, klt (U (Zin (xin arg0 harg0 x0) 1)) (V (Zin (xin arg0 harg0 x0) 1)) j.val :=
  (congrArg (fun w => Scalar.mulf w (Scalar.ofBits .f32 0x24000000#32 : Ideal .f32)) (pay116_eq _ _ _ _ _ _ _)).trans (kl_fast (k0_pay50 (F := Ideal) (xin arg0 harg0 x0)) _ (fast_y1 c arg0 harg0 x0))

/-- The number the fast path stores first for the first batch entry is its divergence. -/
theorem fast_kl0 : k0_pay81 (F := Ideal) (runFast.sl.r_11 c arg0 harg0 x0) (runFast.sl.r_12 c arg0 harg0 x0) (runFast.sl.r_13 c arg0 harg0 x0) (runFast.sl.r_15 c arg0 harg0 x0)
    = ∑ j : Fin 131072, klt (U (Zin (xin arg0 harg0 x0) 0)) (V (Zin (xin arg0 harg0 x0) 0)) j.val :=
  (pay81_eq _ _ _ _).trans (kl_fast (k0_pay49 (F := Ideal) (xin arg0 harg0 x0)) _ (fast_y0 c arg0 harg0 x0))

/-- The number the slow path stores first for the second batch entry is its divergence. -/
theorem slow_kl1 : k0_pay1 (F := Ideal) (runSlow.sl.r_30 c arg0 harg0 x0) runSlow.sl.cst_110
    = ∑ j : Fin 131072, klt (U (Zin (xin arg0 harg0 x0) 1)) (V (Zin (xin arg0 harg0 x0) 1)) j.val :=
  (congrArg (fun w => Scalar.mulf w (Scalar.ofBits .f32 0x24000000#32 : Ideal .f32)) (pay116_eq _ _ _ _ _ _ _)).trans (kl_fast (k0_pay50 (F := Ideal) (xin arg0 harg0 x0)) _ (slow_y1 c arg0 harg0 x0))

/-- The number the slow path stores first for the first batch entry is its divergence. -/
theorem slow_kl0 : k0_pay81 (F := Ideal) (runSlow.sl.r_11 c arg0 harg0 x0) (runSlow.sl.r_12 c arg0 harg0 x0) (runSlow.sl.r_13 c arg0 harg0 x0) (runSlow.sl.r_15 c arg0 harg0 x0)
    = ∑ j : Fin 131072, klt (U (Zin (xin arg0 harg0 x0) 0)) (V (Zin (xin arg0 harg0 x0) 0)) j.val :=
  (pay81_eq _ _ _ _).trans (kl_fast (k0_pay49 (F := Ideal) (xin arg0 harg0 x0)) _ (slow_y0 c arg0 harg0 x0))

/-- The kernel's divergence output, on either path. -/
theorem out5_eq (y : Shape.Idx S2) : out5 (F := Ideal) c arg0 harg0 arg1 harg1 arg2 harg2 arg3 harg3 arg4 harg4 arg5 harg5 arg6 harg6 arg7 harg7 x0 y = klOf (Zin (xin arg0 harg0 x0)) y := by
  unfold out5
  split
  · rename_i hc
    refine View.read_writes_apply_of_pieces (Val := Elt Ideal) _ _ (klOf (Zin (xin arg0 harg0 x0))) _ ?_ y (coverSlow5 c arg0 harg0 arg1 harg1 arg2 harg2 arg3 harg3 arg4 harg4 arg5 harg5 arg6 harg6 arg7 harg7 x0 hc y)
    unfold runSlow; dsimp only
    intro p hp
    rcases List.mem_cons.1 hp with rfl | hp
    · refine one_piece (Zin (xin arg0 harg0 x0)) _ 1 ?_ ![1] rfl inb_S2_S1_1
      refine kl2 c arg0 harg0 arg1 harg1 arg2 harg2 arg3 harg3 arg4 harg4 arg5 harg5 arg6 harg6 arg7 harg7 _ _ _ _ (Zin (xin arg0 harg0 x0)) _ _ (holds _) _ _ ?_ ?_
      · exact (View.read_writes_full _ _ _ _ _).trans (slow_B1 c arg0 harg0 x0)
      · exact (View.read_writes_full _ _ _ _ _).trans (slow_A1 c arg0 harg0 x0)
    rcases List.mem_cons.1 hp with rfl | hp
    · refine one_piece (Zin (xin arg0 harg0 x0)) _ 0 ?_ _ rfl inb_S2_S1_0
      refine kl1 c arg0 harg0 arg1 harg1 arg2 harg2 arg3 harg3 arg4 harg4 arg5 harg5 arg6 harg6 arg7 harg7 _ _ _ _ _ (Zin (xin arg0 harg0 x0)) _ _ (holds _) _ _ ?_ ?_
      · exact (View.read_writes_full _ _ _ _ _).trans (slow_B0 c arg0 harg0 x0)
      · exact (View.read_writes_full _ _ _ _ _).trans (slow_A0 c arg0 harg0 x0)
    rcases List.mem_cons.1 hp with rfl | hp
    · exact one_piece (Zin (xin arg0 harg0 x0)) _ 1 (slow_kl1 c arg0 harg0 x0) ![1] rfl inb_S2_S1_1
    rcases List.mem_cons.1 hp with rfl | hp
    · exact one_piece (Zin (xin arg0 harg0 x0)) _ 0 (slow_kl0 c arg0 harg0 x0) S1.size rfl inb_S2_S1_0
    exact absurd hp List.not_mem_nil
  · rename_i hc
    refine View.read_writes_apply_of_pieces (Val := Elt Ideal) _ _ (klOf (Zin (xin arg0 harg0 x0))) _ ?_ y (coverFast5 c arg0 harg0 arg1 harg1 arg2 harg2 arg3 harg3 arg4 harg4 arg5 harg5 arg6 harg6 arg7 harg7 x0 hc y)
    unfold runFast; dsimp only
    intro p hp
    rcases List.mem_cons.1 hp with rfl | hp
    · exact one_piece (Zin (xin arg0 harg0 x0)) _ 1 (fast_kl1 c arg0 harg0 x0) ![1] rfl inb_S2_S1_1
    rcases List.mem_cons.1 hp with rfl | hp
    · exact one_piece (Zin (xin arg0 harg0 x0)) _ 0 (fast_kl0 c arg0 harg0 x0) S1.size rfl inb_S2_S1_0
    exact absurd hp List.not_mem_nil

end Cert.Val

end
-- ==== Proof.Val.Arrays.lean ====
/- What the kernel's result arrays hold after the region: each is written back once and whole. -/
module

public import proofs.«01_k».proof.Proof.Val.Input
public import proofs.«01_k».proof.Proof.Val.OutSmall
public import proofs.«01_k».proof.Proof.Val.OutKl
public import Idealize.ShloMosaic.Lib.Pipeline.FrameTail

@[expose] public section

set_option maxRecDepth 16384

noncomputable section

namespace Cert.Val

open Idealize.ShloMosaic Idealize.ShloMosaic.TcCoe Cert.KernelIdeal Cert.KernelIdeal.Gen Cert.KernelIdeal.Body
open Idealize.ShloMosaic.Pipeline (Dat)

variable (m : (ℓ : Loc nD τ sig) → Buf (Elt Ideal) ℓ)

/-- The logarithms of the usages, as the kernel lays them out: batch entries interleaved by rows. -/
def luArr (x : FVec Ideal Cert.ReferenceIdeal.S2x128x17 .bf16) : FVec Ideal S2048x128 .f32 :=
  gLU fun b => if h : b < 2 then Ref.zOf x ⟨b, h⟩ else Ref.zOf x 0

/-- Two families of bit values that agree on the two batch entries give the same array of logarithms. -/
theorem gLU_congr (Z Z' : ℕ → FVec Ideal S17x128 .f32) (h : ∀ b : Fin 2, Z b.val = Z' b.val) : gLU Z = gLU Z' := by
  funext y
  have hb := h ⟨(y 0).val % 2, Nat.mod_lt _ (by omega)⟩
  dsimp only at hb
  unfold gLU
  rw [hb]

/-- After the body, output 1's buffer holds the code indices of the argument. -/
theorem outs1 (c : Dev nD) (t : Fin cfg0.N) : (outsAt0 m c t).1 = (Ref.refIdx (argOf m c)) := by
  unfold outsAt0
  dsimp only
  funext y
  obtain ⟨b, s, rfl⟩ : ∃ (b : Fin 2) (s : Fin 128), y = ix2 b s := ⟨y 0, y 1, by funext a; fin_cases a <;> rfl⟩
  refine (out1_eq c _ _ _ _ _ _ _ _ _ _ _ _ _ _ _ _ _ b s).trans ?_
  rw [Zin_eq m c t _ _ b]
  exact (Ref.refIdx_apply (argOf m c) b s).symm

/-- The result array 1 ends holding the code indices. -/
theorem arr1 (c : Dev nD) : (dats m 0 c).arrAt 1 cfg0.N = (Ref.refIdx (argOf m c)) := by
  refine (dats m 0 c).arrAt_eq_of_cover 1 (Ref.refIdx (argOf m c)) (fun t _ => ?_) fun i => ⟨t0_0, flush0_1 t0_0, ?_⟩
  · show (cfg0.win 1).cut (grid0.coords t) ((dats m 0 c).after 1 t) = _
    rw [after0_1, outs1]
    have hz' : (fun a => win0_1.index t a * main_v1_0.ty.shape.size a) = fun _ => 0 := funext fun a => by
      rcases fin_N0 t with rfl; fin_cases a <;> decide
    exact (Memref.read_access_unit_zero (Elt Ideal) main_v1_0 hz' (fun a => by rw [congrFun hz' a]; simp) (Ref.refIdx (argOf m c))).symm
  · show i ∈ ((View.whole main_v1_0).slice (win0_1.rect t0_0)).set
    rw [View.set_slice_whole, Rect.mem_set_unit]
    intro a
    have e : win0_1.index t0_0 a * win0_1.size a = 0 := by fin_cases a <;> decide
    have hi := (i a).isLt
    refine ⟨by show win0_1.index t0_0 a * win0_1.size a ≤ _; rw [e]; exact Nat.zero_le _, ?_⟩
    show (i a).val < win0_1.index t0_0 a * win0_1.size a + win0_1.xsize (grid0.coords t0_0) a
    rw [e, Nat.zero_add]
    exact hi

/-- After the body, output 2's buffer holds the entropies of the samples of the argument. -/
theorem outs2 (c : Dev nD) (t : Fin cfg0.N) : (outsAt0 m c t).2.1 = (Ref.refEnt (Ref.refLp (argOf m c)) (Ref.refLq (argOf m c))) := by
  unfold outsAt0
  dsimp only
  funext y
  obtain ⟨b, s, rfl⟩ : ∃ (b : Fin 2) (s : Fin 128), y = ix2 b s := ⟨y 0, y 1, by funext a; fin_cases a <;> rfl⟩
  refine (out2_eq c _ _ _ _ _ _ _ _ _ _ _ _ _ _ _ _ _ b s).trans ?_
  rw [Zin_eq m c t _ _ b]
  exact (Ref.refEnt_apply (argOf m c) b s).symm

/-- The result array 2 ends holding the entropies of the samples. -/
theorem arr2 (c : Dev nD) : (dats m 0 c).arrAt 2 cfg0.N = (Ref.refEnt (Ref.refLp (argOf m c)) (Ref.refLq (argOf m c))) := by
  refine (dats m 0 c).arrAt_eq_of_cover 2 (Ref.refEnt (Ref.refLp (argOf m c)) (Ref.refLq (argOf m c))) (fun t _ => ?_) fun i => ⟨t0_0, flush0_2 t0_0, ?_⟩
  · show (cfg0.win 2).cut (grid0.coords t) ((dats m 0 c).after 2 t) = _
    rw [after0_2, outs2]
    have hz' : (fun a => win0_2.index t a * main_v1_1.ty.shape.size a) = fun _ => 0 := funext fun a => by
      rcases fin_N0 t with rfl; fin_cases a <;> decide
    exact (Memref.read_access_unit_zero (Elt Ideal) main_v1_1 hz' (fun a => by rw [congrFun hz' a]; simp) (Ref.refEnt (Ref.refLp (argOf m c)) (Ref.refLq (argOf m c)))).symm
  · show i ∈ ((View.whole main_v1_1).slice (win0_2.rect t0_0)).set
    rw [View.set_slice_whole, Rect.mem_set_unit]
    intro a
    have e : win0_2.index t0_0 a * win0_2.size a = 0 := by fin_cases a <;> decide
    have hi := (i a).isLt
    refine ⟨by show win0_2.index t0_0 a * win0_2.size a ≤ _; rw [e]; exact Nat.zero_le _, ?_⟩
    show (i a).val < win0_2.index t0_0 a * win0_2.size a + win0_2.xsize (grid0.coords t0_0) a
    rw [e, Nat.zero_add]
    exact hi

/-- After the body, output 3's buffer holds the commitment losses of the argument. -/
theorem outs3 (c : Dev nD) (t : Fin cfg0.N) : (outsAt0 m c t).2.2.1 = (Ref.refCom (argOf m c)) := by
  unfold outsAt0
  dsimp only
  funext y
  obtain ⟨b, s, rfl⟩ : ∃ (b : Fin 2) (s : Fin 128), y = ix2 b s := ⟨y 0, y 1, by funext a; fin_cases a <;> rfl⟩
  refine (out3_eq c _ _ _ _ _ _ _ _ _ _ _ _ _ _ _ _ _ b s).trans ?_
  rw [Zin_eq m c t _ _ b]
  exact (Ref.refCom_apply (argOf m c) b s).symm

/-- The result array 3 ends holding the commitment losses. -/
theorem arr3 (c : Dev nD) : (dats m 0 c).arrAt 3 cfg0.N = (Ref.refCom (argOf m c)) := by
  refine (dats m 0 c).arrAt_eq_of_cover 3 (Ref.refCom (argOf m c)) (fun t _ => ?_) fun i => ⟨t0_0, flush0_3 t0_0, ?_⟩
  · show (cfg0.win 3).cut (grid0.coords t) ((dats m 0 c).after 3 t) = _
    rw [after0_3, outs3]
    have hz' : (fun a => win0_3.index t a * main_v1_2.ty.shape.size a) = fun _ => 0 := funext fun a => by
      rcases fin_N0 t with rfl; fin_cases a <;> decide
    exact (Memref.read_access_unit_zero (Elt Ideal) main_v1_2 hz' (fun a => by rw [congrFun hz' a]; simp) (Ref.refCom (argOf m c))).symm
  · show i ∈ ((View.whole main_v1_2).slice (win0_3.rect t0_0)).set
    rw [View.set_slice_whole, Rect.mem_set_unit]
    intro a
    have e : win0_3.index t0_0 a * win0_3.size a = 0 := by fin_cases a <;> decide
    have hi := (i a).isLt
    refine ⟨by show win0_3.index t0_0 a * win0_3.size a ≤ _; rw [e]; exact Nat.zero_le _, ?_⟩
    show (i a).val < win0_3.index t0_0 a * win0_3.size a + win0_3.xsize (grid0.coords t0_0) a
    rw [e, Nat.zero_add]
    exact hi

/-- After the body, output 4's buffer holds the logarithms of the usages of the argument. -/
theorem outs4 (c : Dev nD) (t : Fin cfg0.N) : (outsAt0 m c t).2.2.2.1 = (luArr (argOf m c)) := by
  unfold outsAt0
  dsimp only
  funext y
  refine (out4_eq c _ _ _ _ _ _ _ _ _ _ _ _ _ _ _ _ _ y).trans ?_
  refine congrFun (gLU_congr _ _ fun b => ?_) y
  rw [Zin_eq m c t _ _ b]
  simp only [b.isLt, dite_true, Fin.eta]

/-- The result array 4 ends holding the logarithms of the usages. -/
theorem arr4 (c : Dev nD) : (dats m 0 c).arrAt 4 cfg0.N = (luArr (argOf m c)) := by
  refine (dats m 0 c).arrAt_eq_of_cover 4 (luArr (argOf m c)) (fun t _ => ?_) fun i => ⟨t0_0, flush0_4 t0_0, ?_⟩
  · show (cfg0.win 4).cut (grid0.coords t) ((dats m 0 c).after 4 t) = _
    rw [after0_4, outs4]
    have hz' : (fun a => win0_4.index t a * main_v1_3.ty.shape.size a) = fun _ => 0 := funext fun a => by
      rcases fin_N0 t with rfl; fin_cases a <;> decide
    exact (Memref.read_access_unit_zero (Elt Ideal) main_v1_3 hz' (fun a => by rw [congrFun hz' a]; simp) (luArr (argOf m c))).symm
  · show i ∈ ((View.whole main_v1_3).slice (win0_4.rect t0_0)).set
    rw [View.set_slice_whole, Rect.mem_set_unit]
    intro a
    have e : win0_4.index t0_0 a * win0_4.size a = 0 := by fin_cases a <;> decide
    have hi := (i a).isLt
    refine ⟨by show win0_4.index t0_0 a * win0_4.size a ≤ _; rw [e]; exact Nat.zero_le _, ?_⟩
    show (i a).val < win0_4.index t0_0 a * win0_4.size a + win0_4.xsize (grid0.coords t0_0) a
    rw [e, Nat.zero_add]
    exact hi

/-- After the body, output 5's buffer holds the divergences of the codebook of the argument. -/
theorem outs5 (c : Dev nD) (t : Fin cfg0.N) : (outsAt0 m c t).2.2.2.2 = (Ref.refKL (Ref.refUsage (argOf m c))) := by
  unfold outsAt0
  dsimp only
  funext y
  obtain ⟨b, rfl⟩ : ∃ b : Fin 2, y = ix1 b := ⟨y 0, by funext a; fin_cases a; rfl⟩
  refine (out5_eq c _ _ _ _ _ _ _ _ _ _ _ _ _ _ _ _ _ (ix1 b)).trans ?_
  unfold klOf
  show ∑ j : Fin 131072, klt (U (Zin _ b.val)) (V (Zin _ b.val)) j.val = _
  rw [Zin_eq m c t _ _ b]
  exact (Ref.refKL_apply (argOf m c) b).symm

/-- The result array 5 ends holding the divergences of the codebook. -/
theorem arr5 (c : Dev nD) : (dats m 0 c).arrAt 5 cfg0.N = (Ref.refKL (Ref.refUsage (argOf m c))) := by
  refine (dats m 0 c).arrAt_eq_of_cover 5 (Ref.refKL (Ref.refUsage (argOf m c))) (fun t _ => ?_) fun i => ⟨t0_0, flush0_5 t0_0, ?_⟩
  · show (cfg0.win 5).cut (grid0.coords t) ((dats m 0 c).after 5 t) = _
    rw [after0_5, outs5]
    have hz' : (fun a => win0_5.index t a * main_v1_4.ty.shape.size a) = fun _ => 0 := funext fun a => by
      rcases fin_N0 t with rfl; fin_cases a <;> decide
    exact (Memref.read_access_unit_zero (Elt Ideal) main_v1_4 hz' (fun a => by rw [congrFun hz' a]; simp) (Ref.refKL (Ref.refUsage (argOf m c)))).symm
  · show i ∈ ((View.whole main_v1_4).slice (win0_5.rect t0_0)).set
    rw [View.set_slice_whole, Rect.mem_set_unit]
    intro a
    have e : win0_5.index t0_0 a * win0_5.size a = 0 := by fin_cases a <;> decide
    have hi := (i a).isLt
    refine ⟨by show win0_5.index t0_0 a * win0_5.size a ≤ _; rw [e]; exact Nat.zero_le _, ?_⟩
    show (i a).val < win0_5.index t0_0 a * win0_5.size a + win0_5.xsize (grid0.coords t0_0) a
    rw [e, Nat.zero_add]
    exact hi

end Cert.Val

end
-- ==== Proof.Val.RefRun.lean ====
/- A run of the reference, with its results as the folded terms. -/
module

public import proofs.«01_k».proof.Proof.Val.RefTerms

@[expose] public section

set_option maxRecDepth 65536

noncomputable section

namespace Cert.Val.Ref

open Idealize.ShloMosaic Cert.ReferenceIdeal Cert.ReferenceIdeal.Gen Idealize.ShloMosaic.TcCoe Idealize.SL.Sem

/-- The reference's second result is its entropy term. -/
theorem res30 (m : (ℓ : Loc nD τ sig) → Buf (Elt Ideal) ℓ) (c : Dev nD) :
    Value.res_main_v30 m c = refEnt (refLp (m ((c.tc : Thread nD τ).loc main_arg0))) (refLq (m ((c.tc : Thread nD τ).loc main_arg0))) := rfl

/-- The reference's fourth result is its usage term. -/
theorem res62 (m : (ℓ : Loc nD τ sig) → Buf (Elt Ideal) ℓ) (c : Dev nD) :
    Value.res_main_v62 m c = refUsage (m ((c.tc : Thread nD τ).loc main_arg0)) := rfl

/-- The reference's fifth result is its divergence term. -/
theorem res68 (m : (ℓ : Loc nD τ sig) → Buf (Elt Ideal) ℓ) (c : Dev nD) :
    Value.res_main_v68 m c = refKL (refUsage (m ((c.tc : Thread nD τ).loc main_arg0))) := rfl

/-- What a run of the reference leaves. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = refIdx (m ((c.tc : Thread nD τ).loc main_arg0))
      ∧ r.2.mem ((c.tc : Thread nD τ).loc main_v30) = refEnt (refLp (m ((c.tc : Thread nD τ).loc main_arg0))) (refLq (m ((c.tc : Thread nD τ).loc main_arg0)))
      ∧ r.2.mem ((c.tc : Thread nD τ).loc main_v18) = refCom (m ((c.tc : Thread nD τ).loc main_arg0))
      ∧ r.2.mem ((c.tc : Thread nD τ).loc main_v62) = refUsage (m ((c.tc : Thread nD τ).loc main_arg0))
      ∧ r.2.mem ((c.tc : Thread nD τ).loc main_v68) = refKL (refUsage (m ((c.tc : Thread nD τ).loc main_arg0)))
      ∧ r.2.mem ((c.tc : Thread nD τ).loc main_arg0) = m ((c.tc : Thread nD τ).loc main_arg0) :=
  (θ_run defs _ _).mono (fun _ h c => ⟨(h c).1, (h c).2.1.trans (res30 m c), (h c).2.2.1, (h c).2.2.2.1.trans (res62 m c), (h c).2.2.2.2.1.trans (res68 m c), (h c).2.2.2.2.2⟩)
    (Value.run m ρ)

end Cert.Val.Ref

end
-- ==== Proof.Val.Assemble.lean ====
/- The kernel's run over the reals with its five results named, and the claim that they are the reference's. -/
module

public import proofs.«01_k».proof.Defs
public import proofs.«01_k».proof.Proof.Val.Arrays
public import proofs.«01_k».proof.Proof.Val.RefRun

@[expose] public section

set_option maxRecDepth 16384

noncomputable section

namespace Cert.Val

open Idealize.ShloMosaic Idealize.ShloMosaic.TcCoe Idealize.SL.Sem Cert.KernelIdeal Cert.KernelIdeal.Gen Cert.KernelIdeal.Body

variable (m : (ℓ : Loc nD τ sig) → Buf (Elt Ideal) ℓ) (ρ : Dev nD → PrngReg)

/-- The interleaved rows, told apart again and laid end to end, are the reference's logarithms of the usages. -/
theorem tail_eq (x : FVec Ideal Cert.ReferenceIdeal.S2x128x17 .bf16) :
    (shapeCast S2x131072 (transpose S2x1024x128 [1, 0, 2] (shapeCast S1024x2x128 (luArr x) shapeCasts_S2048x128_S1024x2x128)
      transposes_S1024x2x128_S2x1024x128_1_0_2) shapeCasts_S2x1024x128_S2x131072 : FVec Ideal S2x131072 .f32) = Ref.refUsage x := by
  funext y
  obtain ⟨b, j, rfl⟩ : ∃ (b : Fin 2) (j : Fin 131072), y = ix2 b j := ⟨y 0, y 1, by funext a; fin_cases a <;> rfl⟩
  have e : ∀ w : FVec Ideal S2048x128 .f32,
      shapeCast S2x131072 (transpose S2x1024x128 [1, 0, 2] (shapeCast S1024x2x128 w shapeCasts_S2048x128_S1024x2x128)
        transposes_S1024x2x128_S2x1024x128_1_0_2) shapeCasts_S2x1024x128_S2x131072 (ix2 b j)
      = w (ix2 ⟨j.val / 128 * 2 + b.val, by omega⟩ ⟨j.val % 128, by omega⟩) := by
    intro w
    pointwise
  refine (e _).trans ?_
  rw [Ref.refUsage_apply]
  unfold luArr
  refine (gLU_of _ _ b.val j.val (by show (j.val / 128 * 2 + b.val) % 2 = _; omega)
    (by show (j.val / 128 * 2 + b.val) / 2 * 128 + j.val % 128 = _; omega)).trans ?_
  simp only [b.isLt, dite_true, Fin.eta]

/-- The host's last lines turn the fourth result array into the reference's logarithms of the usages. -/
theorem final_v4 (c : Dev nD) :
    Pipeline.afterTail₀ cfgs (dats m) 0 (V0 m) [hostOps1] c main_v4 = Ref.refUsage (argOf m c) := by
  unfold Pipeline.afterTail₀
  rw [← tail_eq, ← arr4 m c]
  have h := Pipeline.withArrays_arr (cfgs 0).spec launch0.win.arr_inj c (V0 m c) (fun w => (dats m 0 c).arrAt w (cfgs 0).N) 4
  rw [← h]
  simp only [List.flatten_cons, List.flatten_nil, List.append_nil]
  after_results
  try rfl

/-- The run of the idealized kernel: its five results are the reference's terms of its argument, which is unchanged. -/
theorem run : θ_run defs (onTc (τ := τ) (main (F := Ideal))) ⟨m, fun _ => 0, ρ⟩ fun r => ∀ c : Dev nD,
      r.2.mem ((c : Thread nD τ).loc main_v1_0) = Ref.refIdx (argOf m c)
      ∧ r.2.mem ((c : Thread nD τ).loc main_v1_1) = Ref.refEnt (Ref.refLp (argOf m c)) (Ref.refLq (argOf m c))
      ∧ r.2.mem ((c : Thread nD τ).loc main_v1_2) = Ref.refCom (argOf m c)
      ∧ r.2.mem ((c : Thread nD τ).loc main_v4) = Ref.refUsage (argOf m c)
      ∧ r.2.mem ((c : Thread nD τ).loc main_v1_4) = Ref.refKL (Ref.refUsage (argOf m c))
      ∧ r.2.mem ((c : Thread nD τ).loc main_arg0) = m ((c : Thread nD τ).loc main_arg0) :=
  (θ_run defs _ _).mono (fun _ h c => ⟨((h c).1 1).trans (arr1 m c), ((h c).1 2).trans (arr2 m c), ((h c).1 3).trans (arr3 m c),
      ((h c).2 main_v4 (Pipeline.mem_restRefs_of main_v4 (by decide) (by decide))).trans (final_v4 m c),
      ((h c).1 5).trans (arr5 m c),
      ((h c).2 main_arg0 (Pipeline.mem_restRefs_of main_arg0 (by decide) (by decide))).trans (W_main_arg0 m (dats m) c)⟩)
    (run_main m ρ)

end Cert.Val

namespace Cert.Proof

open Idealize.ShloMosaic Idealize.ShloMosaic.TcCoe Idealize.SL.Sem

/-- Over the extended reals, from one argument, the kernel and the reference end with the same five results: the code indices,
    the entropies of the samples, the commitment losses, the logarithms of the usages, the divergences of the codebook. -/
theorem algebraic : Cert.algebraic_KernelIdeal_ReferenceIdeal := fun m ρ m' ρ' _ hag =>
  ⟨fun c => Cert.Val.Ref.refIdx (Cert.Val.argOf m c),
    fun c => Cert.Val.Ref.refEnt (Cert.Val.Ref.refLp (Cert.Val.argOf m c)) (Cert.Val.Ref.refLq (Cert.Val.argOf m c)),
    fun c => Cert.Val.Ref.refCom (Cert.Val.argOf m c),
    fun c => Cert.Val.Ref.refUsage (Cert.Val.argOf m c),
    fun c => Cert.Val.Ref.refKL (Cert.Val.Ref.refUsage (Cert.Val.argOf m c)),
    Cert.Val.run m ρ,
    (θ_run Cert.ReferenceIdeal.defs _ _).mono (fun r h c => by
      have h' := h c
      rw [hag c] at h'
      exact ⟨h'.1, h'.2.1, h'.2.2.1, h'.2.2.2.1, h'.2.2.2.2.1, h'.2.2.2.2.2.trans (hag c).symm⟩) (Cert.Val.Ref.run m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Val.Assemble
public import Idealize.ShloMosaic.Adequacy
public import Idealize.ShloMosaic.Init

@[expose] public section

noncomputable section

namespace Cert.Proof

open Idealize.ShloMosaic Idealize.SL.Sem

/-- All claims, with the witnesses of the programs' stated facts. -/
theorem claim : Cert.Claim :=
  ⟨Cert.Kernel.Gen.facts, Cert.KernelIdeal.Gen.facts, Cert.ReferenceIdeal.Gen.facts, frame_p, frame_pi, frame_ri, preserves, algebraic⟩

end Cert.Proof

end
